-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x81x17x256 : Shape := ⟨4, ![16, 81, 17, 256]⟩
abbrev S128x256 : Shape := ⟨2, ![128, 256]⟩
abbrev S128 : Shape := ⟨1, ![128]⟩
abbrev S768x128 : Shape := ⟨2, ![768, 128]⟩
abbrev S1x32 : Shape := ⟨2, ![1, 32]⟩
abbrev S256x128 : Shape := ⟨2, ![256, 128]⟩
abbrev S256 : Shape := ⟨1, ![256]⟩
abbrev S_ : Shape := ⟨0, ![]⟩
abbrev S32x1 : Shape := ⟨2, ![32, 1]⟩
abbrev S128x768 : Shape := ⟨2, ![128, 768]⟩
abbrev S8x96x128 : Shape := ⟨3, ![8, 96, 128]⟩
abbrev S8x32x128 : Shape := ⟨3, ![8, 32, 128]⟩
abbrev S8x16x128 : Shape := ⟨3, ![8, 16, 128]⟩
abbrev S128x128 : Shape := ⟨2, ![128, 128]⟩
abbrev S256x1 : Shape := ⟨2, ![256, 1]⟩
abbrev S1x128 : Shape := ⟨2, ![1, 128]⟩
abbrev S1x256 : Shape := ⟨2, ![1, 256]⟩
abbrev S16x9x17x256 : Shape := ⟨4, ![16, 9, 17, 256]⟩
abbrev S8x128 : Shape := ⟨2, ![8, 128]⟩
abbrev S144x17x256 : Shape := ⟨3, ![144, 17, 256]⟩
abbrev S17x144x256 : Shape := ⟨3, ![17, 144, 256]⟩
abbrev S144x256 : Shape := ⟨2, ![144, 256]⟩
abbrev S1x144x256 : Shape := ⟨3, ![1, 144, 256]⟩
abbrev S19x144x256 : Shape := ⟨3, ![19, 144, 256]⟩
abbrev S2736x256 : Shape := ⟨2, ![2736, 256]⟩
abbrev S2736x128 : Shape := ⟨2, ![2736, 128]⟩
abbrev S2736x768 : Shape := ⟨2, ![2736, 768]⟩
abbrev S19x144x128 : Shape := ⟨3, ![19, 144, 128]⟩
abbrev S144x128 : Shape := ⟨2, ![144, 128]⟩
abbrev S8x144x256 : Shape := ⟨3, ![8, 144, 256]⟩
abbrev S1152x256 : Shape := ⟨2, ![1152, 256]⟩
abbrev S1152x128 : Shape := ⟨2, ![1152, 128]⟩
abbrev S8x144x128 : Shape := ⟨3, ![8, 144, 128]⟩
abbrev S7x144x256 : Shape := ⟨3, ![7, 144, 256]⟩
abbrev S1008x256 : Shape := ⟨2, ![1008, 256]⟩
abbrev S1008x128 : Shape := ⟨2, ![1008, 128]⟩
abbrev S7x144x128 : Shape := ⟨3, ![7, 144, 128]⟩
abbrev S5x144x256 : Shape := ⟨3, ![5, 144, 256]⟩
abbrev S720x256 : Shape := ⟨2, ![720, 256]⟩
abbrev S720x128 : Shape := ⟨2, ![720, 128]⟩
abbrev S5x144x128 : Shape := ⟨3, ![5, 144, 128]⟩
abbrev S4x144x256 : Shape := ⟨3, ![4, 144, 256]⟩
abbrev S576x256 : Shape := ⟨2, ![576, 256]⟩
abbrev S576x128 : Shape := ⟨2, ![576, 128]⟩
abbrev S4x144x128 : Shape := ⟨3, ![4, 144, 128]⟩
abbrev S9x144x256 : Shape := ⟨3, ![9, 144, 256]⟩
abbrev S1296x256 : Shape := ⟨2, ![1296, 256]⟩
abbrev S1296x128 : Shape := ⟨2, ![1296, 128]⟩
abbrev S9x144x128 : Shape := ⟨3, ![9, 144, 128]⟩
abbrev S10x144x256 : Shape := ⟨3, ![10, 144, 256]⟩
abbrev S1440x256 : Shape := ⟨2, ![1440, 256]⟩
abbrev S1440x128 : Shape := ⟨2, ![1440, 128]⟩
abbrev S10x144x128 : Shape := ⟨3, ![10, 144, 128]⟩
abbrev S2448x256 : Shape := ⟨2, ![2448, 256]⟩
abbrev S2448x128 : Shape := ⟨2, ![2448, 128]⟩
abbrev S17x144x128 : Shape := ⟨3, ![17, 144, 128]⟩
abbrev S1x144x128 : Shape := ⟨3, ![1, 144, 128]⟩
abbrev S2736 : Shape := ⟨1, ![2736]⟩
abbrev S2736x1 : Shape := ⟨2, ![2736, 1]⟩

abbrev nBuf : Space → Nat
  | .hbm => 42
  | .vmem => 37
  | .smem => 0
  | _ => 0

abbrev bufTy : (tb : Table) → Fin (tcTables nBuf tb) → BufTy
  | .hbm, ⟨0, _⟩ => ⟨S16x81x17x256, .f32⟩
  | .hbm, ⟨1, _⟩ => ⟨S128x256, .f32⟩
  | .hbm, ⟨2, _⟩ => ⟨S128, .f32⟩
  | .hbm, ⟨3, _⟩ => ⟨S768x128, .f32⟩
  | .hbm, ⟨4, _⟩ => ⟨S1x32, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S768x128, .f32⟩
  | .hbm, ⟨12, _⟩ => ⟨S1x32, .f32⟩
  | .hbm, ⟨13, _⟩ => ⟨S256x128, .f32⟩
  | .hbm, ⟨14, _⟩ => ⟨S256, .f32⟩
  | .hbm, ⟨15, _⟩ => ⟨S256x128, .i32⟩
  | .hbm, ⟨16, _⟩ => ⟨S256x128, .i32⟩
  | .hbm, ⟨17, _⟩ => ⟨S_, .i32⟩
  | .hbm, ⟨18, _⟩ => ⟨S256x128, .i32⟩
  | .hbm, ⟨19, _⟩ => ⟨S256x128, .i32⟩
  | .hbm, ⟨20, _⟩ => ⟨S_, .i32⟩
  | .hbm, ⟨21, _⟩ => ⟨S256x128, .i32⟩
  | .hbm, ⟨22, _⟩ => ⟨S256x128, .i32⟩
  | .hbm, ⟨23, _⟩ => ⟨S256x128, .i1⟩
  | .hbm, ⟨24, _⟩ => ⟨S256x128, .f32⟩
  | .hbm, ⟨25, _⟩ => ⟨S32x1, .f32⟩
  | .hbm, ⟨26, _⟩ => ⟨S128x768, .f32⟩
  | .hbm, ⟨27, _⟩ => ⟨S256x128, .f32⟩
  | .hbm, ⟨28, _⟩ => ⟨S128x256, .f32⟩
  | .hbm, ⟨29, _⟩ => ⟨S256x128, .f32⟩
  | .hbm, ⟨30, _⟩ => ⟨S32x1, .f32⟩
  | .hbm, ⟨31, _⟩ => ⟨S128x768, .f32⟩
  | .hbm, ⟨32, _⟩ => ⟨S256x128, .f32⟩
  | .hbm, ⟨33, _⟩ => ⟨S128x256, .f32⟩
  | .hbm, ⟨34, _⟩ => ⟨S256x128, .f32⟩
  | .hbm, ⟨35, _⟩ => ⟨S1x128, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x128, .f32⟩
  | .hbm, ⟨40, _⟩ => ⟨S1x256, .f32⟩
  | .hbm, ⟨41, _⟩ => ⟨S16x81x17x256, .f32⟩
  | .local _ .vmem, ⟨0, _⟩ => ⟨S768x128, .f32⟩
  | .local _ .vmem, ⟨1, _⟩ => ⟨S128x256, .f32⟩
  | .local _ .vmem, ⟨2, _⟩ => ⟨S256x128, .f32⟩
  | .local _ .vmem, ⟨3, _⟩ => ⟨S32x1, .f32⟩
  | .local _ .vmem, ⟨4, _⟩ => ⟨S256x128, .f32⟩
  | .local _ .vmem, ⟨5, _⟩ => ⟨S128x768, .f32⟩
  | .local _ .vmem, ⟨6, _⟩ => ⟨S256x128, .f32⟩
  | .local _ .vmem, ⟨7, _⟩ => ⟨S128x256, .f32⟩
  | .local _ .vmem, ⟨8, _⟩ => ⟨S256x128, .f32⟩
  | .local _ .vmem, ⟨9, _⟩ => ⟨S768x128, .f32⟩
  | .local _ .vmem, ⟨10, _⟩ => ⟨S128x256, .f32⟩
  | .local _ .vmem, ⟨11, _⟩ => ⟨S256x128, .f32⟩
  | .local _ .vmem, ⟨12, _⟩ => ⟨S32x1, .f32⟩
  | .local _ .vmem, ⟨13, _⟩ => ⟨S256x128, .f32⟩
  | .local _ .vmem, ⟨14, _⟩ => ⟨S128x768, .f32⟩
  | .local _ .vmem, ⟨15, _⟩ => ⟨S256x128, .f32⟩
  | .local _ .vmem, ⟨16, _⟩ => ⟨S128x256, .f32⟩
  | .local _ .vmem, ⟨17, _⟩ => ⟨S256x128, .f32⟩
  | .local _ .vmem, ⟨18, _⟩ => ⟨S16x9x17x256, .f32⟩
  | .local _ .vmem, ⟨19, _⟩ => ⟨S16x9x17x256, .f32⟩
  | .local _ .vmem, ⟨20, _⟩ => ⟨S256x128, .f32⟩
  | .local _ .vmem, ⟨21, _⟩ => ⟨S1x128, .f32⟩
  | .local _ .vmem, ⟨22, _⟩ => ⟨S128x768, .f32⟩
  | .local _ .vmem, ⟨23, _⟩ => ⟨S256x128, .f32⟩
  | .local _ .vmem, ⟨24, _⟩ => ⟨S128x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S128x768, .f32⟩
  | .local _ .vmem, ⟨31, _⟩ => ⟨S256x128, .f32⟩
  | .local _ .vmem, ⟨32, _⟩ => ⟨S128x256, .f32⟩
  | .local _ .vmem, ⟨33, _⟩ => ⟨S1x256, .f32⟩
  | .local _ .vmem, ⟨34, _⟩ => ⟨S16x9x17x256, .f32⟩
  | .local _ .vmem, ⟨35, _⟩ => ⟨S16x9x17x256, .f32⟩
  | .local _ .vmem, ⟨36, _⟩ => ⟨S8x128, .f32⟩
  | _, _ => ⟨S16x81x17x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v11_2 : Ref sig .tc := ⟨.hbm, 33, rfl⟩
abbrev main_v11_3 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg15_1 : Ref sig .tc := ⟨.vmem, 35, rfl⟩
abbrev cc2_scratch0 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35

abbrev nD : Nat := 1
abbrev τ : Topo := Topo.v7x

variable {F : FTy → Type} [FloatOps F]

abbrev grid0 : Pipeline.Grid := .none

abbrev stage0_0 : Fin 1 → Memref sig .tc .vmem S768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

abbrev stage1_0 : Fin 1 → Memref sig .tc .vmem S768x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨1, ![9], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S16x9x17x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S16x9x17x256 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S16x81x17x256 : Shape := ⟨4, ![16, 81, 17, 256]⟩
abbrev S128x256 : Shape := ⟨2, ![128, 256]⟩
abbrev S128 : Shape := ⟨1, ![128]⟩
abbrev S768x128 : Shape := ⟨2, ![768, 128]⟩
abbrev S1x32 : Shape := ⟨2, ![1, 32]⟩
abbrev S256x128 : Shape := ⟨2, ![256, 128]⟩
abbrev S256 : Shape := ⟨1, ![256]⟩
abbrev S138 : Shape := ⟨1, ![138]⟩
abbrev S_ : Shape := ⟨0, ![]⟩
abbrev S16x81x256 : Shape := ⟨3, ![16, 81, 256]⟩
abbrev S16x81x1x256 : Shape := ⟨4, ![16, 81, 1, 256]⟩
abbrev S16x81x19x256 : Shape := ⟨4, ![16, 81, 19, 256]⟩
abbrev S16x81x19x128 : Shape := ⟨4, ![16, 81, 19, 128]⟩
abbrev S1x1x1x128 : Shape := ⟨4, ![1, 1, 1, 128]⟩
abbrev S128x768 : Shape := ⟨2, ![128, 768]⟩
abbrev S16x81x19x768 : Shape := ⟨4, ![16, 81, 19, 768]⟩
abbrev S16x81x19x8x96 : Shape := ⟨5, ![16, 81, 19, 8, 96]⟩
abbrev S16x81x19x8x32 : Shape := ⟨5, ![16, 81, 19, 8, 32]⟩
abbrev S138x1 : Shape := ⟨2, ![138, 1]⟩
abbrev S16x81x138x8x32 : Shape := ⟨5, ![16, 81, 138, 8, 32]⟩
abbrev S32x1 : Shape := ⟨2, ![32, 1]⟩
abbrev S16x81x138x8x1 : Shape := ⟨5, ![16, 81, 138, 8, 1]⟩
abbrev S16x81x138x8 : Shape := ⟨4, ![16, 81, 138, 8]⟩
abbrev S16x81x8 : Shape := ⟨3, ![16, 81, 8]⟩
abbrev S16x81x1x8 : Shape := ⟨4, ![16, 81, 1, 8]⟩
abbrev S16x81x19x8 : Shape := ⟨4, ![16, 81, 19, 8]⟩
abbrev S16x81x8x138 : Shape := ⟨4, ![16, 81, 8, 138]⟩
abbrev S16x81x8x19x19 : Shape := ⟨5, ![16, 81, 8, 19, 19]⟩
abbrev S138x2 : Shape := ⟨2, ![138, 2]⟩
abbrev S16x81x8x19x32 : Shape := ⟨5, ![16, 81, 8, 19, 32]⟩
abbrev S16x81x8x19x16 : Shape := ⟨5, ![16, 81, 8, 19, 16]⟩
abbrev S16x81x19x8x16 : Shape := ⟨5, ![16, 81, 19, 8, 16]⟩
abbrev S1x1x1x256 : Shape := ⟨4, ![1, 1, 1, 256]⟩
abbrev S16x81x19 : Shape := ⟨3, ![16, 81, 19]⟩
abbrev S16x81x19x1 : Shape := ⟨4, ![16, 81, 19, 1]⟩

abbrev nBuf : Space → Nat
  | .hbm => 270
  | .vmem => 0
  | .smem => 0
  | _ => 0

abbrev hbmTy0_0 (i : Nat) : BufTy := match i % 128 with
  | 0 => ⟨S16x81x17x256, .f32⟩
  | 1 => ⟨S128x256, .f32⟩
  | 2 => ⟨S128, .f32⟩
  | 3 => ⟨S768x128, .f32⟩
  | 4 => ⟨S1x32, .f32⟩
  | 5 => ⟨S256x128, .f32⟩
  | 6 => ⟨S256, .f32⟩
  | 7 => ⟨S256, .f32⟩
  | 8 => ⟨S256, .f32⟩
  | 9 => ⟨S128x256, .f32⟩
  | 10 => ⟨S128, .f32⟩
  | 11 => ⟨S768x128, .f32⟩
  | 12 => ⟨S1x32, .f32⟩
  | 13 => ⟨S256x128, .f32⟩
  | 14 => ⟨S256, .f32⟩
  | 15 => ⟨S138, .i32⟩
  | 16 => ⟨S138, .i32⟩
  | 17 => ⟨S_, .f32⟩
  | 18 => ⟨S16x81x256, .f32⟩
  | 19 => ⟨S16x81x1x256, .f32⟩
  | 20 => ⟨S_, .f32⟩
  | 21 => ⟨S16x81x1x256, .f32⟩
  | 22 => ⟨S16x81x1x256, .f32⟩
  | 23 => ⟨S_, .f32⟩
  | 24 => ⟨S16x81x1x256, .f32⟩
  | 25 => ⟨S16x81x19x256, .f32⟩
  | 26 => ⟨S256x128, .f32⟩
  | 27 => ⟨S16x81x19x128, .f32⟩
  | 28 => ⟨S1x1x1x128, .f32⟩
  | 29 => ⟨S16x81x19x128, .f32⟩
  | 30 => ⟨S16x81x19x128, .f32⟩
  | 31 => ⟨S128x768, .f32⟩
  | 32 => ⟨S16x81x19x768, .f32⟩
  | 33 => ⟨S16x81x19x8x96, .f32⟩
  | 34 => ⟨S16x81x19x8x32, .f32⟩
  | 35 => ⟨S16x81x19x8x32, .f32⟩
  | 36 => ⟨S16x81x19x8x32, .f32⟩
  | 37 => ⟨S_, .i32⟩
  | 38 => ⟨S138, .i32⟩
  | 39 => ⟨S138, .i1⟩
  | 40 => ⟨S_, .i32⟩
  | 41 => ⟨S138, .i32⟩
  | 42 => ⟨S138, .i32⟩
  | 43 => ⟨S138, .i32⟩
  | 44 => ⟨S138x1, .i32⟩
  | 45 => ⟨S16x81x138x8x32, .f32⟩
  | 46 => ⟨S_, .i32⟩
  | 47 => ⟨S138, .i32⟩
  | 48 => ⟨S138, .i1⟩
  | 49 => ⟨S_, .i32⟩
  | 50 => ⟨S138, .i32⟩
  | 51 => ⟨S138, .i32⟩
  | 52 => ⟨S138, .i32⟩
  | 53 => ⟨S138x1, .i32⟩
  | 54 => ⟨S16x81x138x8x32, .f32⟩
  | 55 => ⟨S16x81x138x8x32, .f32⟩
  | 56 => ⟨S_, .f32⟩
  | 57 => ⟨S16x81x138x8x32, .f32⟩
  | 58 => ⟨S16x81x138x8x32, .f32⟩
  | 59 => ⟨S16x81x138x8x32, .f32⟩
  | 60 => ⟨S16x81x138x8x32, .f32⟩
  | 61 => ⟨S16x81x138x8x32, .i1⟩
  | 62 => ⟨S16x81x138x8x32, .f32⟩
  | 63 => ⟨S16x81x138x8x32, .f32⟩
  | 64 => ⟨S16x81x138x8x32, .f32⟩
  | 65 => ⟨S16x81x138x8x32, .f32⟩
  | 66 => ⟨S16x81x138x8x32, .f32⟩
  | 67 => ⟨S16x81x138x8x32, .f32⟩
  | 68 => ⟨S16x81x138x8x32, .f32⟩
  | 69 => ⟨S16x81x138x8x32, .f32⟩
  | 70 => ⟨S32x1, .f32⟩
  | 71 => ⟨S16x81x138x8x1, .f32⟩
  | 72 => ⟨S16x81x138x8, .f32⟩
  | 73 => ⟨S_, .f32⟩
  | 74 => ⟨S16x81x8, .f32⟩
  | 75 => ⟨S16x81x1x8, .f32⟩
  | 76 => ⟨S16x81x138x8, .f32⟩
  | 77 => ⟨S16x81x138x8, .f32⟩
  | 78 => ⟨S16x81x138x8, .f32⟩
  | 79 => ⟨S_, .f32⟩
  | 80 => ⟨S16x81x19x8, .f32⟩
  | 81 => ⟨S_, .i32⟩
  | 82 => ⟨S138, .i32⟩
  | 83 => ⟨S138, .i1⟩
  | 84 => ⟨S_, .i32⟩
  | 85 => ⟨S138, .i32⟩
  | 86 => ⟨S138, .i32⟩
  | 87 => ⟨S138, .i32⟩
  | 88 => ⟨S138x1, .i32⟩
  | 89 => ⟨S16x81x19x8, .f32⟩
  | 90 => ⟨S_, .i32⟩
  | 91 => ⟨S138, .i32⟩
  | 92 => ⟨S138, .i1⟩
  | 93 => ⟨S_, .i32⟩
  | 94 => ⟨S138, .i32⟩
  | 95 => ⟨S138, .i32⟩
  | 96 => ⟨S138, .i32⟩
  | 97 => ⟨S138x1, .i32⟩
  | 98 => ⟨S16x81x138x8, .f32⟩
  | 99 => ⟨S16x81x138x8, .f32⟩
  | 100 => ⟨S16x81x8x138, .f32⟩
  | 101 => ⟨S_, .f32⟩
  | 102 => ⟨S16x81x8x19x19, .f32⟩
  | 103 => ⟨S_, .i32⟩
  | 104 => ⟨S138, .i32⟩
  | 105 => ⟨S138, .i1⟩
  | 106 => ⟨S_, .i32⟩
  | 107 => ⟨S138, .i32⟩
  | 108 => ⟨S138, .i32⟩
  | 109 => ⟨S138, .i32⟩
  | 110 => ⟨S_, .i32⟩
  | 111 => ⟨S138, .i32⟩
  | 112 => ⟨S138, .i1⟩
  | 113 => ⟨S_, .i32⟩
  | 114 => ⟨S138, .i32⟩
  | 115 => ⟨S138, .i32⟩
  | 116 => ⟨S138, .i32⟩
  | 117 => ⟨S138x1, .i32⟩
  | 118 => ⟨S138x1, .i32⟩
  | 119 => ⟨S138x2, .i32⟩
  | 120 => ⟨S16x81x8x19x19, .f32⟩
  | 121 => ⟨S16x81x8x19x32, .f32⟩
  | 122 => ⟨S16x81x8x19x16, .f32⟩
  | 123 => ⟨S16x81x8x19x16, .f32⟩
  | 124 => ⟨S16x81x8x19x16, .f32⟩
  | 125 => ⟨S16x81x8x19x16, .f32⟩
  | 126 => ⟨S16x81x19x8x16, .f32⟩
  | 127 => ⟨S16x81x19x128, .f32⟩
  | _ => ⟨S16x81x17x256, .f32⟩

abbrev hbmTy0_1 (i : Nat) : BufTy := match i % 128 with
  | 0 => ⟨S128x256, .f32⟩
  | 1 => ⟨S16x81x19x256, .f32⟩
  | 2 => ⟨S1x1x1x256, .f32⟩
  | 3 => ⟨S16x81x19x256, .f32⟩
  | 4 => ⟨S16x81x19x256, .f32⟩
  | 5 => ⟨S_, .f32⟩
  | 6 => ⟨S16x81x19, .f32⟩
  | 7 => ⟨S16x81x19x1, .f32⟩
  | 8 => ⟨S_, .f32⟩
  | 9 => ⟨S16x81x19x1, .f32⟩
  | 10 => ⟨S16x81x19x1, .f32⟩
  | 11 => ⟨S16x81x19x256, .f32⟩
  | 12 => ⟨S16x81x19x256, .f32⟩
  | 13 => ⟨S16x81x19x256, .f32⟩
  | 14 => ⟨S_, .f32⟩
  | 15 => ⟨S16x81x19, .f32⟩
  | 16 => ⟨S16x81x19x1, .f32⟩
  | 17 => ⟨S_, .f32⟩
  | 18 => ⟨S16x81x19x1, .f32⟩
  | 19 => ⟨S16x81x19x1, .f32⟩
  | 20 => ⟨S16x81x19x256, .f32⟩
  | 21 => ⟨S16x81x19x256, .f32⟩
  | 22 => ⟨S_, .f32⟩
  | 23 => ⟨S16x81x19x1, .f32⟩
  | 24 => ⟨S16x81x19x1, .f32⟩
  | 25 => ⟨S16x81x19x1, .f32⟩
  | 26 => ⟨S16x81x19x256, .f32⟩
  | 27 => ⟨S16x81x19x256, .f32⟩
  | 28 => ⟨S1x1x1x256, .f32⟩
  | 29 => ⟨S16x81x19x256, .f32⟩
  | 30 => ⟨S16x81x19x256, .f32⟩
  | 31 => ⟨S1x1x1x256, .f32⟩
  | 32 => ⟨S16x81x19x256, .f32⟩
  | 33 => ⟨S16x81x19x256, .f32⟩
  | 34 => ⟨S256x128, .f32⟩
  | 35 => ⟨S16x81x19x128, .f32⟩
  | 36 => ⟨S1x1x1x128, .f32⟩
  | 37 => ⟨S16x81x19x128, .f32⟩
  | 38 => ⟨S16x81x19x128, .f32⟩
  | 39 => ⟨S128x768, .f32⟩
  | 40 => ⟨S16x81x19x768, .f32⟩
  | 41 => ⟨S16x81x19x8x96, .f32⟩
  | 42 => ⟨S16x81x19x8x32, .f32⟩
  | 43 => ⟨S16x81x19x8x32, .f32⟩
  | 44 => ⟨S16x81x19x8x32, .f32⟩
  | 45 => ⟨S_, .i32⟩
  | 46 => ⟨S138, .i32⟩
  | 47 => ⟨S138, .i1⟩
  | 48 => ⟨S_, .i32⟩
  | 49 => ⟨S138, .i32⟩
  | 50 => ⟨S138, .i32⟩
  | 51 => ⟨S138, .i32⟩
  | 52 => ⟨S138x1, .i32⟩
  | 53 => ⟨S16x81x138x8x32, .f32⟩
  | 54 => ⟨S_, .i32⟩
  | 55 => ⟨S138, .i32⟩
  | 56 => ⟨S138, .i1⟩
  | 57 => ⟨S_, .i32⟩
  | 58 => ⟨S138, .i32⟩
  | 59 => ⟨S138, .i32⟩
  | 60 => ⟨S138, .i32⟩
  | 61 => ⟨S138x1, .i32⟩
  | 62 => ⟨S16x81x138x8x32, .f32⟩
  | 63 => ⟨S16x81x138x8x32, .f32⟩
  | 64 => ⟨S_, .f32⟩
  | 65 => ⟨S16x81x138x8x32, .f32⟩
  | 66 => ⟨S16x81x138x8x32, .f32⟩
  | 67 => ⟨S16x81x138x8x32, .f32⟩
  | 68 => ⟨S16x81x138x8x32, .f32⟩
  | 69 => ⟨S16x81x138x8x32, .i1⟩
  | 70 => ⟨S16x81x138x8x32, .f32⟩
  | 71 => ⟨S16x81x138x8x32, .f32⟩
  | 72 => ⟨S16x81x138x8x32, .f32⟩
  | 73 => ⟨S16x81x138x8x32, .f32⟩
  | 74 => ⟨S16x81x138x8x32, .f32⟩
  | 75 => ⟨S16x81x138x8x32, .f32⟩
  | 76 => ⟨S16x81x138x8x32, .f32⟩
  | 77 => ⟨S16x81x138x8x32, .f32⟩
  | 78 => ⟨S32x1, .f32⟩
  | 79 => ⟨S16x81x138x8x1, .f32⟩
  | 80 => ⟨S16x81x138x8, .f32⟩
  | 81 => ⟨S_, .f32⟩
  | 82 => ⟨S16x81x8, .f32⟩
  | 83 => ⟨S16x81x1x8, .f32⟩
  | 84 => ⟨S16x81x138x8, .f32⟩
  | 85 => ⟨S16x81x138x8, .f32⟩
  | 86 => ⟨S16x81x138x8, .f32⟩
  | 87 => ⟨S_, .f32⟩
  | 88 => ⟨S16x81x19x8, .f32⟩
  | 89 => ⟨S_, .i32⟩
  | 90 => ⟨S138, .i32⟩
  | 91 => ⟨S138, .i1⟩
  | 92 => ⟨S_, .i32⟩
  | 93 => ⟨S138, .i32⟩
  | 94 => ⟨S138, .i32⟩
  | 95 => ⟨S138, .i32⟩
  | 96 => ⟨S138x1, .i32⟩
  | 97 => ⟨S16x81x19x8, .f32⟩
  | 98 => ⟨S_, .i32⟩
  | 99 => ⟨S138, .i32⟩
  | 100 => ⟨S138, .i1⟩
  | 101 => ⟨S_, .i32⟩
  | 102 => ⟨S138, .i32⟩
  | 103 => ⟨S138, .i32⟩
  | 104 => ⟨S138, .i32⟩
  | 105 => ⟨S138x1, .i32⟩
  | 106 => ⟨S16x81x138x8, .f32⟩
  | 107 => ⟨S16x81x138x8, .f32⟩
  | 108 => ⟨S16x81x8x138, .f32⟩
  | 109 => ⟨S_, .f32⟩
  | 110 => ⟨S16x81x8x19x19, .f32⟩
  | 111 => ⟨S_, .i32⟩
  | 112 => ⟨S138, .i32⟩
  | 113 => ⟨S138, .i1⟩
  | 114 => ⟨S_, .i32⟩
  | 115 => ⟨S138, .i32⟩
  | 116 => ⟨S138, .i32⟩
  | 117 => ⟨S138, .i32⟩
  | 118 => ⟨S_, .i32⟩
  | 119 => ⟨S138, .i32⟩
  | 120 => ⟨S138, .i1⟩
  | 121 => ⟨S_, .i32⟩
  | 122 => ⟨S138, .i32⟩
  | 123 => ⟨S138, .i32⟩
  | 124 => ⟨S138, .i32⟩
  | 125 => ⟨S138x1, .i32⟩
  | 126 => ⟨S138x1, .i32⟩
  | 127 => ⟨S138x2, .i32⟩
  | _ => ⟨S16x81x17x256, .f32⟩

abbrev hbmTy0_2 (i : Nat) : BufTy := match i % 128 with
  | 0 => ⟨S16x81x8x19x19, .f32⟩
  | 1 => ⟨S16x81x8x19x32, .f32⟩
  | 2 => ⟨S16x81x8x19x16, .f32⟩
  | 3 => ⟨S16x81x8x19x16, .f32⟩
  | 4 => ⟨S16x81x8x19x16, .f32⟩
  | 5 => ⟨S16x81x8x19x16, .f32⟩
  | 6 => ⟨S16x81x19x8x16, .f32⟩
  | 7 => ⟨S16x81x19x128, .f32⟩
  | 8 => ⟨S128x256, .f32⟩
  | 9 => ⟨S16x81x19x256, .f32⟩
  | 10 => ⟨S1x1x1x256, .f32⟩
  | 11 => ⟨S16x81x19x256, .f32⟩
  | 12 => ⟨S16x81x19x256, .f32⟩
  | 13 => ⟨S16x81x17x256, .f32⟩
  | _ => ⟨S16x81x17x256, .f32⟩

abbrev hbmTy (i : Nat) : BufTy := match i / 128 with
  | 0 => hbmTy0_0 i
  | 1 => hbmTy0_1 i
  | 2 => hbmTy0_2 i
  | _ => ⟨S16x81x17x256, .f32⟩

abbrev bufTy : (tb : Table) → Fin (tcTables nBuf tb) → BufTy
  | .hbm, ⟨i, _⟩ => hbmTy i
  | _, _ => ⟨S16x81x17x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_cst_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_c_9 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_11 : Ref sig .tc := ⟨.hbm, 90, rfl⟩
abbrev main_v49 : Ref sig .tc := ⟨.hbm, 91, rfl⟩
abbrev main_v50 : Ref sig .tc := ⟨.hbm, 92, rfl⟩
abbrev main_c_12 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_13 : Ref sig .tc := ⟨.hbm, 101, rfl⟩
abbrev main_v58 : Ref sig .tc := ⟨.hbm, 102, rfl⟩
abbrev main_c_14 : Ref sig .tc := ⟨.hbm, 103, rfl⟩
abbrev main_v59 : Ref sig .tc := ⟨.hbm, 104, rfl⟩
abbrev main_v60 : Ref sig .tc := ⟨.hbm, 105, rfl⟩
abbrev main_c_15 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_16 : Ref sig .tc := ⟨.hbm, 110, rfl⟩
abbrev main_v64 : Ref sig .tc := ⟨.hbm, 111, rfl⟩
abbrev main_v65 : Ref sig .tc := ⟨.hbm, 112, rfl⟩
abbrev main_c_17 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_18 : Ref sig .tc := ⟨.hbm, 133, rfl⟩
abbrev main_v85 : Ref sig .tc := ⟨.hbm, 134, rfl⟩
abbrev main_v86 : Ref sig .tc := ⟨.hbm, 135, rfl⟩
abbrev main_cst_19 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_20 : Ref sig .tc := ⟨.hbm, 142, rfl⟩
abbrev main_v92 : Ref sig .tc := ⟨.hbm, 143, rfl⟩
abbrev main_v93 : Ref sig .tc := ⟨.hbm, 144, rfl⟩
abbrev main_cst_21 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_22 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_23 : Ref sig .tc := ⟨.hbm, 173, rfl⟩
abbrev main_v120 : Ref sig .tc := ⟨.hbm, 174, rfl⟩
abbrev main_v121 : Ref sig .tc := ⟨.hbm, 175, rfl⟩
abbrev main_c_24 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_25 : Ref sig .tc := ⟨.hbm, 182, rfl⟩
abbrev main_v127 : Ref sig .tc := ⟨.hbm, 183, rfl⟩
abbrev main_v128 : Ref sig .tc := ⟨.hbm, 184, rfl⟩
abbrev main_c_26 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_call1_cst : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_call1_v3 : Ref sig .tc := ⟨.hbm, 196, rfl⟩
abbrev main_call1_v4 : Ref sig .tc := ⟨.hbm, 197, rfl⟩
abbrev main_call1_v5 : Ref sig .tc := ⟨.hbm, 198, rfl⟩
abbrev main_call1_v6 : Ref sig .tc := ⟨.hbm, 199, rfl⟩
abbrev main_call1_v7 : Ref sig .tc := ⟨.hbm, 200, rfl⟩
abbrev main_call1_v8 : Ref sig .tc := ⟨.hbm, 201, rfl⟩
abbrev main_call1_v9 : Ref sig .tc := ⟨.hbm, 202, rfl⟩
abbrev main_call1_v10 : Ref sig .tc := ⟨.hbm, 203, rfl⟩
abbrev main_call1_v11 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_27 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_28 : Ref sig .tc := ⟨.hbm, 215, rfl⟩
abbrev main_v144 : Ref sig .tc := ⟨.hbm, 216, rfl⟩
abbrev main_c_29 : Ref sig .tc := ⟨.hbm, 217, rfl⟩
abbrev main_v145 : Ref sig .tc := ⟨.hbm, 218, rfl⟩
abbrev main_v146 : Ref sig .tc := ⟨.hbm, 219, rfl⟩
abbrev main_c_30 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_c_31 : Ref sig .tc := ⟨.hbm, 226, rfl⟩
abbrev main_v152 : Ref sig .tc := ⟨.hbm, 227, rfl⟩
abbrev main_v153 : Ref sig .tc := ⟨.hbm, 228, rfl⟩
abbrev main_c_32 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_33 : Ref sig .tc := ⟨.hbm, 237, rfl⟩
abbrev main_v161 : Ref sig .tc := ⟨.hbm, 238, rfl⟩
abbrev main_c_34 : Ref sig .tc := ⟨.hbm, 239, rfl⟩
abbrev main_v162 : Ref sig .tc := ⟨.hbm, 240, rfl⟩
abbrev main_v163 : Ref sig .tc := ⟨.hbm, 241, rfl⟩
abbrev main_c_35 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_c_36 : Ref sig .tc := ⟨.hbm, 246, rfl⟩
abbrev main_v167 : Ref sig .tc := ⟨.hbm, 247, rfl⟩
abbrev main_v168 : Ref sig .tc := ⟨.hbm, 248, rfl⟩
abbrev main_c_37 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩

abbrev nD : Nat := 1
abbrev τ : Topo := Topo.v7x

variable {F : FTy → Type} [FloatOps F]
-- ==== Proof.Model.lean ====
/- The fused kernel's body as vector functions of the arrays that its grid point reads: the graph layer
    `gconv` once, the layer norm, and the whole body `fused`, written with the same operations in the same
    order as the program. The neighbours of a node are written out per node, as the program unrolls them. -/
module

public import proofs.«01_k».proof.Proof.Gen.KernelIdeal
public import proofs.«01_k».proof.Proof.Gen.KernelIdeal.Skeleton

@[expose] public section

set_option maxRecDepth 16384

noncomputable section

namespace Cert.KernelIdeal.Model

open Idealize.ShloMosaic Idealize.SL.Sem Cert.KernelIdeal Cert.KernelIdeal.Gen

/-- The sum of a nonempty list of vectors, taken from the left. -/
def vsum {s : Shape} : List (FVec Ideal s .f32) → FVec Ideal s .f32
  | [] => fun _ => 0
  | x :: xs => xs.foldl addf x

/-- The scores of 4 edges into one node: softplus of query plus key, contracted with the head weights. -/
def score4 (qc : FVec Ideal S4x144x256 .f32) (kj : FVec Ideal S1x144x256 .f32) (aw : FVec Ideal S256x128 .f32) : FVec Ideal S4x144x128 .f32 :=
  have t := addf qc (broadcastTo S4x144x256 kj broadcasts_S1x144x256_S4x144x256)
  have z := broadcast S4x144x256 (Scalar.ofBits (F := Ideal) .f32 0x00000000#32)
  shapeCast S4x144x128 (matmul dot_S576x256_S256x128_S576x128_1_0_0_1_n_n none
    (shapeCast S576x256 (addf (maximumf t z) (log1p (exp (subf z (absf t))))) shapeCasts_S4x144x256_S576x256) aw
    (constant S576x128 .f32 0x00000000#32)) shapeCasts_S576x128_S4x144x128

/-- The weights of 4 edges: the exponentials of the scores less the running maximum. -/
def expo4 (sg : FVec Ideal S4x144x128 .f32) (m : FVec Ideal S144x128 .f32) : FVec Ideal S4x144x128 .f32 :=
  exp (subf sg (broadcastTo S4x144x128 (shapeCast S1x144x128 m shapeCasts_S144x128_S1x144x128) broadcasts_S1x144x128_S4x144x128))

/-- The running maximum after a group of 4 scores. -/
def maxi4 (sg : FVec Ideal S4x144x128 .f32) (m : FVec Ideal S144x128 .f32) : FVec Ideal S144x128 .f32 :=
  maximumf m (multiReduction .maximumf [0] S144x128 sg 0xFF800000#32 reduces_S4x144x128_S144x128 (.inl rfl) rfl)

/-- The weight vector of one edge of 4. -/
def pick4 (a : ℕ) (h : S4x144x128.Slices ![a, 0, 0] S1x144x128) (e : FVec Ideal S4x144x128 .f32) : FVec Ideal S144x128 .f32 :=
  shapeCast S144x128 (extractStridedSlice S1x144x128 ![a, 0, 0] e h) shapeCasts_S1x144x128_S144x128

/-- The scores of 5 edges into one node: softplus of query plus key, contracted with the head weights. -/
def score5 (qc : FVec Ideal S5x144x256 .f32) (kj : FVec Ideal S1x144x256 .f32) (aw : FVec Ideal S256x128 .f32) : FVec Ideal S5x144x128 .f32 :=
  have t := addf qc (broadcastTo S5x144x256 kj broadcasts_S1x144x256_S5x144x256)
  have z := broadcast S5x144x256 (Scalar.ofBits (F := Ideal) .f32 0x00000000#32)
  shapeCast S5x144x128 (matmul dot_S720x256_S256x128_S720x128_1_0_0_1_n_n none
    (shapeCast S720x256 (addf (maximumf t z) (log1p (exp (subf z (absf t))))) shapeCasts_S5x144x256_S720x256) aw
    (constant S720x128 .f32 0x00000000#32)) shapeCasts_S720x128_S5x144x128

/-- The weights of 5 edges: the exponentials of the scores less the running maximum. -/
def expo5 (sg : FVec Ideal S5x144x128 .f32) (m : FVec Ideal S144x128 .f32) : FVec Ideal S5x144x128 .f32 :=
  exp (subf sg (broadcastTo S5x144x128 (shapeCast S1x144x128 m shapeCasts_S144x128_S1x144x128) broadcasts_S1x144x128_S5x144x128))

/-- The running maximum after a group of 5 scores. -/
def maxi5 (sg : FVec Ideal S5x144x128 .f32) (m : FVec Ideal S144x128 .f32) : FVec Ideal S144x128 .f32 :=
  maximumf m (multiReduction .maximumf [0] S144x128 sg 0xFF800000#32 reduces_S5x144x128_S144x128 (.inl rfl) rfl)

/-- The weight vector of one edge of 5. -/
def pick5 (a : ℕ) (h : S5x144x128.Slices ![a, 0, 0] S1x144x128) (e : FVec Ideal S5x144x128 .f32) : FVec Ideal S144x128 .f32 :=
  shapeCast S144x128 (extractStridedSlice S1x144x128 ![a, 0, 0] e h) shapeCasts_S1x144x128_S144x128

/-- The scores of 7 edges into one node: softplus of query plus key, contracted with the head weights. -/
def score7 (qc : FVec Ideal S7x144x256 .f32) (kj : FVec Ideal S1x144x256 .f32) (aw : FVec Ideal S256x128 .f32) : FVec Ideal S7x144x128 .f32 :=
  have t := addf qc (broadcastTo S7x144x256 kj broadcasts_S1x144x256_S7x144x256)
  have z := broadcast S7x144x256 (Scalar.ofBits (F := Ideal) .f32 0x00000000#32)
  shapeCast S7x144x128 (matmul dot_S1008x256_S256x128_S1008x128_1_0_0_1_n_n none
    (shapeCast S1008x256 (addf (maximumf t z) (log1p (exp (subf z (absf t))))) shapeCasts_S7x144x256_S1008x256) aw
    (constant S1008x128 .f32 0x00000000#32)) shapeCasts_S1008x128_S7x144x128

/-- The weights of 7 edges: the exponentials of the scores less the running maximum. -/
def expo7 (sg : FVec Ideal S7x144x128 .f32) (m : FVec Ideal S144x128 .f32) : FVec Ideal S7x144x128 .f32 :=
  exp (subf sg (broadcastTo S7x144x128 (shapeCast S1x144x128 m shapeCasts_S144x128_S1x144x128) broadcasts_S1x144x128_S7x144x128))

/-- The running maximum after a group of 7 scores. -/
def maxi7 (sg : FVec Ideal S7x144x128 .f32) (m : FVec Ideal S144x128 .f32) : FVec Ideal S144x128 .f32 :=
  maximumf m (multiReduction .maximumf [0] S144x128 sg 0xFF800000#32 reduces_S7x144x128_S144x128 (.inl rfl) rfl)

/-- The weight vector of one edge of 7. -/
def pick7 (a : ℕ) (h : S7x144x128.Slices ![a, 0, 0] S1x144x128) (e : FVec Ideal S7x144x128 .f32) : FVec Ideal S144x128 .f32 :=
  shapeCast S144x128 (extractStridedSlice S1x144x128 ![a, 0, 0] e h) shapeCasts_S1x144x128_S144x128

/-- The scores of 8 edges into one node: softplus of query plus key, contracted with the head weights. -/
def score8 (qc : FVec Ideal S8x144x256 .f32) (kj : FVec Ideal S1x144x256 .f32) (aw : FVec Ideal S256x128 .f32) : FVec Ideal S8x144x128 .f32 :=
  have t := addf qc (broadcastTo S8x144x256 kj broadcasts_S1x144x256_S8x144x256)
  have z := broadcast S8x144x256 (Scalar.ofBits (F := Ideal) .f32 0x00000000#32)
  shapeCast S8x144x128 (matmul dot_S1152x256_S256x128_S1152x128_1_0_0_1_n_n none
    (shapeCast S1152x256 (addf (maximumf t z) (log1p (exp (subf z (absf t))))) shapeCasts_S8x144x256_S1152x256) aw
    (constant S1152x128 .f32 0x00000000#32)) shapeCasts_S1152x128_S8x144x128

/-- The weights of 8 edges: the exponentials of the scores less the running maximum. -/
def expo8 (sg : FVec Ideal S8x144x128 .f32) (m : FVec Ideal S144x128 .f32) : FVec Ideal S8x144x128 .f32 :=
  exp (subf sg (broadcastTo S8x144x128 (shapeCast S1x144x128 m shapeCasts_S144x128_S1x144x128) broadcasts_S1x144x128_S8x144x128))

/-- The running maximum after a group of 8 scores. -/
def maxi8 (sg : FVec Ideal S8x144x128 .f32) (m : FVec Ideal S144x128 .f32) : FVec Ideal S144x128 .f32 :=
  maximumf m (multiReduction .maximumf [0] S144x128 sg 0xFF800000#32 reduces_S8x144x128_S144x128 (.inl rfl) rfl)

/-- The weight vector of one edge of 8. -/
def pick8 (a : ℕ) (h : S8x144x128.Slices ![a, 0, 0] S1x144x128) (e : FVec Ideal S8x144x128 .f32) : FVec Ideal S144x128 .f32 :=
  shapeCast S144x128 (extractStridedSlice S1x144x128 ![a, 0, 0] e h) shapeCasts_S1x144x128_S144x128

/-- The scores of 9 edges into one node: softplus of query plus key, contracted with the head weights. -/
def score9 (qc : FVec Ideal S9x144x256 .f32) (kj : FVec Ideal S1x144x256 .f32) (aw : FVec Ideal S256x128 .f32) : FVec Ideal S9x144x128 .f32 :=
  have t := addf qc (broadcastTo S9x144x256 kj broadcasts_S1x144x256_S9x144x256)
  have z := broadcast S9x144x256 (Scalar.ofBits (F := Ideal) .f32 0x00000000#32)
  shapeCast S9x144x128 (matmul dot_S1296x256_S256x128_S1296x128_1_0_0_1_n_n none
    (shapeCast S1296x256 (addf (maximumf t z) (log1p (exp (subf z (absf t))))) shapeCasts_S9x144x256_S1296x256) aw
    (constant S1296x128 .f32 0x00000000#32)) shapeCasts_S1296x128_S9x144x128

/-- The weights of 9 edges: the exponentials of the scores less the running maximum. -/
def expo9 (sg : FVec Ideal S9x144x128 .f32) (m : FVec Ideal S144x128 .f32) : FVec Ideal S9x144x128 .f32 :=
  exp (subf sg (broadcastTo S9x144x128 (shapeCast S1x144x128 m shapeCasts_S144x128_S1x144x128) broadcasts_S1x144x128_S9x144x128))

/-- The running maximum after a group of 9 scores. -/
def maxi9 (sg : FVec Ideal S9x144x128 .f32) (m : FVec Ideal S144x128 .f32) : FVec Ideal S144x128 .f32 :=
  maximumf m (multiReduction .maximumf [0] S144x128 sg 0xFF800000#32 reduces_S9x144x128_S144x128 (.inl rfl) rfl)

/-- The weight vector of one edge of 9. -/
def pick9 (a : ℕ) (h : S9x144x128.Slices ![a, 0, 0] S1x144x128) (e : FVec Ideal S9x144x128 .f32) : FVec Ideal S144x128 .f32 :=
  shapeCast S144x128 (extractStridedSlice S1x144x128 ![a, 0, 0] e h) shapeCasts_S1x144x128_S144x128

/-- The scores of 10 edges into one node: softplus of query plus key, contracted with the head weights. -/
def score10 (qc : FVec Ideal S10x144x256 .f32) (kj : FVec Ideal S1x144x256 .f32) (aw : FVec Ideal S256x128 .f32) : FVec Ideal S10x144x128 .f32 :=
  have t := addf qc (broadcastTo S10x144x256 kj broadcasts_S1x144x256_S10x144x256)
  have z := broadcast S10x144x256 (Scalar.ofBits (F := Ideal) .f32 0x00000000#32)
  shapeCast S10x144x128 (matmul dot_S1440x256_S256x128_S1440x128_1_0_0_1_n_n none
    (shapeCast S1440x256 (addf (maximumf t z) (log1p (exp (subf z (absf t))))) shapeCasts_S10x144x256_S1440x256) aw
    (constant S1440x128 .f32 0x00000000#32)) shapeCasts_S1440x128_S10x144x128

/-- The weights of 10 edges: the exponentials of the scores less the running maximum. -/
def expo10 (sg : FVec Ideal S10x144x128 .f32) (m : FVec Ideal S144x128 .f32) : FVec Ideal S10x144x128 .f32 :=
  exp (subf sg (broadcastTo S10x144x128 (shapeCast S1x144x128 m shapeCasts_S144x128_S1x144x128) broadcasts_S1x144x128_S10x144x128))

/-- The running maximum after a group of 10 scores. -/
def maxi10 (sg : FVec Ideal S10x144x128 .f32) (m : FVec Ideal S144x128 .f32) : FVec Ideal S144x128 .f32 :=
  maximumf m (multiReduction .maximumf [0] S144x128 sg 0xFF800000#32 reduces_S10x144x128_S144x128 (.inl rfl) rfl)

/-- The weight vector of one edge of 10. -/
def pick10 (a : ℕ) (h : S10x144x128.Slices ![a, 0, 0] S1x144x128) (e : FVec Ideal S10x144x128 .f32) : FVec Ideal S144x128 .f32 :=
  shapeCast S144x128 (extractStridedSlice S1x144x128 ![a, 0, 0] e h) shapeCasts_S1x144x128_S144x128

/-- The scores of 17 edges into one node: softplus of query plus key, contracted with the head weights. -/
def score17 (qc : FVec Ideal S17x144x256 .f32) (kj : FVec Ideal S1x144x256 .f32) (aw : FVec Ideal S256x128 .f32) : FVec Ideal S17x144x128 .f32 :=
  have t := addf qc (broadcastTo S17x144x256 kj broadcasts_S1x144x256_S17x144x256)
  have z := broadcast S17x144x256 (Scalar.ofBits (F := Ideal) .f32 0x00000000#32)
  shapeCast S17x144x128 (matmul dot_S2448x256_S256x128_S2448x128_1_0_0_1_n_n none
    (shapeCast S2448x256 (addf (maximumf t z) (log1p (exp (subf z (absf t))))) shapeCasts_S17x144x256_S2448x256) aw
    (constant S2448x128 .f32 0x00000000#32)) shapeCasts_S2448x128_S17x144x128

/-- The weights of 17 edges: the exponentials of the scores less the running maximum. -/
def expo17 (sg : FVec Ideal S17x144x128 .f32) (m : FVec Ideal S144x128 .f32) : FVec Ideal S17x144x128 .f32 :=
  exp (subf sg (broadcastTo S17x144x128 (shapeCast S1x144x128 m shapeCasts_S144x128_S1x144x128) broadcasts_S1x144x128_S17x144x128))

/-- The running maximum after a group of 17 scores. -/
def maxi17 (sg : FVec Ideal S17x144x128 .f32) (m : FVec Ideal S144x128 .f32) : FVec Ideal S144x128 .f32 :=
  maximumf m (multiReduction .maximumf [0] S144x128 sg 0xFF800000#32 reduces_S17x144x128_S144x128 (.inl rfl) rfl)

/-- The weight vector of one edge of 17. -/
def pick17 (a : ℕ) (h : S17x144x128.Slices ![a, 0, 0] S1x144x128) (e : FVec Ideal S17x144x128 .f32) : FVec Ideal S144x128 .f32 :=
  shapeCast S144x128 (extractStridedSlice S1x144x128 ![a, 0, 0] e h) shapeCasts_S1x144x128_S144x128

/-- One node's row of the queries or keys. -/
def node (a : ℕ) (h : S19x144x256.Slices ![a, 0, 0] S1x144x256) (q : FVec Ideal S19x144x256 .f32) : FVec Ideal S1x144x256 .f32 :=
  extractStridedSlice S1x144x256 ![a, 0, 0] q h

/-- One node's row of the values. -/
def vnode (a : ℕ) (h : S19x144x128.Slices ![a, 0, 0] S1x144x128) (v : FVec Ideal S19x144x128 .f32) : FVec Ideal S144x128 .f32 :=
  shapeCast S144x128 (extractStridedSlice S1x144x128 ![a, 0, 0] v h) shapeCasts_S1x144x128_S144x128

/-- A row as a box of one row. -/
def box (v : FVec Ideal S144x128 .f32) : FVec Ideal S1x144x128 .f32 := shapeCast S1x144x128 v shapeCasts_S144x128_S1x144x128

section
variable (q k : FVec Ideal S19x144x256 .f32) (aw : FVec Ideal S256x128 .f32) (v : FVec Ideal S19x144x128 .f32)

/-- The running maximum's start. -/
def m0 : FVec Ideal S144x128 .f32 := broadcast S144x128 (Named.named (F := Ideal) κ "mask" 0xF149F2CA#32)

def sg0 : FVec Ideal S8x144x128 .f32 := score8 (concatenate S8x144x256 0 [⟨S1x144x256, node 1 slices_S19x144x256_o1_0_0_S1x144x256 q⟩, ⟨S1x144x256, node 2 slices_S19x144x256_o2_0_0_S1x144x256 q⟩, ⟨S1x144x256, node 4 slices_S19x144x256_o4_0_0_S1x144x256 q⟩, ⟨S1x144x256, node 5 slices_S19x144x256_o5_0_0_S1x144x256 q⟩, ⟨S1x144x256, node 7 slices_S19x144x256_o7_0_0_S1x144x256 q⟩, ⟨S1x144x256, node 8 slices_S19x144x256_o8_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S1x144x256_S8x144x256_d0) (node 0 slices_S19x144x256_o0_0_0_S1x144x256 k) aw
def sg1 : FVec Ideal S7x144x128 .f32 := score7 (concatenate S7x144x256 0 [⟨S1x144x256, node 0 slices_S19x144x256_o0_0_0_S1x144x256 q⟩, ⟨S1x144x256, node 2 slices_S19x144x256_o2_0_0_S1x144x256 q⟩, ⟨S1x144x256, node 3 slices_S19x144x256_o3_0_0_S1x144x256 q⟩, ⟨S1x144x256, node 4 slices_S19x144x256_o4_0_0_S1x144x256 q⟩, ⟨S1x144x256, node 7 slices_S19x144x256_o7_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S7x144x256_d0) (node 1 slices_S19x144x256_o1_0_0_S1x144x256 k) aw
def sg2 : FVec Ideal S5x144x128 .f32 := score5 (concatenate S5x144x256 0 [⟨S1x144x256, node 0 slices_S19x144x256_o0_0_0_S1x144x256 q⟩, ⟨S1x144x256, node 1 slices_S19x144x256_o1_0_0_S1x144x256 q⟩, ⟨S1x144x256, node 3 slices_S19x144x256_o3_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S5x144x256_d0) (node 2 slices_S19x144x256_o2_0_0_S1x144x256 k) aw
def sg3 : FVec Ideal S4x144x128 .f32 := score4 (concatenate S4x144x256 0 [⟨S1x144x256, node 1 slices_S19x144x256_o1_0_0_S1x144x256 q⟩, ⟨S1x144x256, node 2 slices_S19x144x256_o2_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S4x144x256_d0) (node 3 slices_S19x144x256_o3_0_0_S1x144x256 k) aw
def sg4 : FVec Ideal S7x144x128 .f32 := score7 (concatenate S7x144x256 0 [⟨S1x144x256, node 0 slices_S19x144x256_o0_0_0_S1x144x256 q⟩, ⟨S1x144x256, node 1 slices_S19x144x256_o1_0_0_S1x144x256 q⟩, ⟨S1x144x256, node 5 slices_S19x144x256_o5_0_0_S1x144x256 q⟩, ⟨S1x144x256, node 6 slices_S19x144x256_o6_0_0_S1x144x256 q⟩, ⟨S1x144x256, node 7 slices_S19x144x256_o7_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S7x144x256_d0) (node 4 slices_S19x144x256_o4_0_0_S1x144x256 k) aw
def sg5 : FVec Ideal S5x144x128 .f32 := score5 (concatenate S5x144x256 0 [⟨S1x144x256, node 0 slices_S19x144x256_o0_0_0_S1x144x256 q⟩, ⟨S1x144x256, node 4 slices_S19x144x256_o4_0_0_S1x144x256 q⟩, ⟨S1x144x256, node 6 slices_S19x144x256_o6_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S5x144x256_d0) (node 5 slices_S19x144x256_o5_0_0_S1x144x256 k) aw
def sg6 : FVec Ideal S4x144x128 .f32 := score4 (concatenate S4x144x256 0 [⟨S1x144x256, node 4 slices_S19x144x256_o4_0_0_S1x144x256 q⟩, ⟨S1x144x256, node 5 slices_S19x144x256_o5_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S4x144x256_d0) (node 6 slices_S19x144x256_o6_0_0_S1x144x256 k) aw
def sg7 : FVec Ideal S9x144x128 .f32 := score9 (concatenate S9x144x256 0 [⟨S1x144x256, node 0 slices_S19x144x256_o0_0_0_S1x144x256 q⟩, ⟨S1x144x256, node 1 slices_S19x144x256_o1_0_0_S1x144x256 q⟩, ⟨S1x144x256, node 4 slices_S19x144x256_o4_0_0_S1x144x256 q⟩, ⟨S1x144x256, node 8 slices_S19x144x256_o8_0_0_S1x144x256 q⟩, ⟨S1x144x256, node 9 slices_S19x144x256_o9_0_0_S1x144x256 q⟩, ⟨S1x144x256, node 11 slices_S19x144x256_o11_0_0_S1x144x256 q⟩, ⟨S1x144x256, node 14 slices_S19x144x256_o14_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S1x144x256_S1x144x256_S9x144x256_d0) (node 7 slices_S19x144x256_o7_0_0_S1x144x256 k) aw
def sg8 : FVec Ideal S10x144x128 .f32 := score10 (concatenate S10x144x256 0 [⟨S1x144x256, node 0 slices_S19x144x256_o0_0_0_S1x144x256 q⟩, ⟨S1x144x256, node 7 slices_S19x144x256_o7_0_0_S1x144x256 q⟩, ⟨S1x144x256, node 9 slices_S19x144x256_o9_0_0_S1x144x256 q⟩, ⟨S1x144x256, node 10 slices_S19x144x256_o10_0_0_S1x144x256 q⟩, ⟨S1x144x256, node 11 slices_S19x144x256_o11_0_0_S1x144x256 q⟩, ⟨S1x144x256, node 12 slices_S19x144x256_o12_0_0_S1x144x256 q⟩, ⟨S1x144x256, node 14 slices_S19x144x256_o14_0_0_S1x144x256 q⟩, ⟨S1x144x256, node 15 slices_S19x144x256_o15_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S1x144x256_S1x144x256_S1x144x256_S10x144x256_d0) (node 8 slices_S19x144x256_o8_0_0_S1x144x256 k) aw
def sg9 : FVec Ideal S7x144x128 .f32 := score7 (concatenate S7x144x256 0 [⟨S1x144x256, node 7 slices_S19x144x256_o7_0_0_S1x144x256 q⟩, ⟨S1x144x256, node 8 slices_S19x144x256_o8_0_0_S1x144x256 q⟩, ⟨S1x144x256, node 10 slices_S19x144x256_o10_0_0_S1x144x256 q⟩, ⟨S1x144x256, node 11 slices_S19x144x256_o11_0_0_S1x144x256 q⟩, ⟨S1x144x256, node 14 slices_S19x144x256_o14_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S7x144x256_d0) (node 9 slices_S19x144x256_o9_0_0_S1x144x256 k) aw
def sg10 : FVec Ideal S4x144x128 .f32 := score4 (concatenate S4x144x256 0 [⟨S1x144x256, node 8 slices_S19x144x256_o8_0_0_S1x144x256 q⟩, ⟨S1x144x256, node 9 slices_S19x144x256_o9_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S4x144x256_d0) (node 10 slices_S19x144x256_o10_0_0_S1x144x256 k) aw
def sg11 : FVec Ideal S8x144x128 .f32 := score8 (concatenate S8x144x256 0 [⟨S1x144x256, node 7 slices_S19x144x256_o7_0_0_S1x144x256 q⟩, ⟨S1x144x256, node 8 slices_S19x144x256_o8_0_0_S1x144x256 q⟩, ⟨S1x144x256, node 9 slices_S19x144x256_o9_0_0_S1x144x256 q⟩, ⟨S1x144x256, node 12 slices_S19x144x256_o12_0_0_S1x144x256 q⟩, ⟨S1x144x256, node 13 slices_S19x144x256_o13_0_0_S1x144x256 q⟩, ⟨S1x144x256, node 14 slices_S19x144x256_o14_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S1x144x256_S8x144x256_d0) (node 11 slices_S19x144x256_o11_0_0_S1x144x256 k) aw
def sg12 : FVec Ideal S5x144x128 .f32 := score5 (concatenate S5x144x256 0 [⟨S1x144x256, node 8 slices_S19x144x256_o8_0_0_S1x144x256 q⟩, ⟨S1x144x256, node 11 slices_S19x144x256_o11_0_0_S1x144x256 q⟩, ⟨S1x144x256, node 13 slices_S19x144x256_o13_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S5x144x256_d0) (node 12 slices_S19x144x256_o12_0_0_S1x144x256 k) aw
def sg13 : FVec Ideal S4x144x128 .f32 := score4 (concatenate S4x144x256 0 [⟨S1x144x256, node 11 slices_S19x144x256_o11_0_0_S1x144x256 q⟩, ⟨S1x144x256, node 12 slices_S19x144x256_o12_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S4x144x256_d0) (node 13 slices_S19x144x256_o13_0_0_S1x144x256 k) aw
def sg14 : FVec Ideal S8x144x128 .f32 := score8 (concatenate S8x144x256 0 [⟨S1x144x256, node 7 slices_S19x144x256_o7_0_0_S1x144x256 q⟩, ⟨S1x144x256, node 8 slices_S19x144x256_o8_0_0_S1x144x256 q⟩, ⟨S1x144x256, node 9 slices_S19x144x256_o9_0_0_S1x144x256 q⟩, ⟨S1x144x256, node 11 slices_S19x144x256_o11_0_0_S1x144x256 q⟩, ⟨S1x144x256, node 15 slices_S19x144x256_o15_0_0_S1x144x256 q⟩, ⟨S1x144x256, node 16 slices_S19x144x256_o16_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S1x144x256_S1x144x256_S1x144x256_S8x144x256_d0) (node 14 slices_S19x144x256_o14_0_0_S1x144x256 k) aw
def sg15 : FVec Ideal S5x144x128 .f32 := score5 (concatenate S5x144x256 0 [⟨S1x144x256, node 8 slices_S19x144x256_o8_0_0_S1x144x256 q⟩, ⟨S1x144x256, node 14 slices_S19x144x256_o14_0_0_S1x144x256 q⟩, ⟨S1x144x256, node 16 slices_S19x144x256_o16_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S1x144x256_S5x144x256_d0) (node 15 slices_S19x144x256_o15_0_0_S1x144x256 k) aw
def sg16 : FVec Ideal S4x144x128 .f32 := score4 (concatenate S4x144x256 0 [⟨S1x144x256, node 14 slices_S19x144x256_o14_0_0_S1x144x256 q⟩, ⟨S1x144x256, node 15 slices_S19x144x256_o15_0_0_S1x144x256 q⟩, ⟨S1x144x256, node 17 slices_S19x144x256_o17_0_0_S1x144x256 q⟩, ⟨S1x144x256, node 18 slices_S19x144x256_o18_0_0_S1x144x256 q⟩] concatenates_S1x144x256_S1x144x256_S1x144x256_S1x144x256_S4x144x256_d0) (node 16 slices_S19x144x256_o16_0_0_S1x144x256 k) aw
def sg17 : FVec Ideal S17x144x128 .f32 := score17 (concatenate S17x144x256 0 [⟨S1x144x256, node 0 slices_S19x144x256_o0_0_0_S1x144x256 q⟩, ⟨S1x144x256, node 1 slices_S19x144x256_o1_0_0_S1x144x256 q⟩, ⟨S1x144x256, node 2 slices_S19x144x256_o2_0_0_S1x144x256 q⟩, ⟨S1x144x256, node 3 slices_S19x144x256_o3_0_0_S1x144x256 q⟩, ⟨S1x144x256, node 4 slices_S19x144x256_o4_0_0_S1x144x256 q⟩, ⟨S1x144x256, node 5 slices_S19x144x256_o5_0_0_S1x144x256 q⟩, ⟨S1x144x256, node 6 slices_S19x144x256_o6_0_0_S1x144x256 q⟩, ⟨S1x144x256, node 7 slices_S19x144x256_o7_0_0_S1x144x256 q⟩, ⟨S1x144x256, node 8 slices_S19x144x256_o8_0_0_S1x144x256 q⟩, ⟨S1x144x256, node 9 slices_S19x144x256_o9_0_0_S1x144x256 q⟩, ⟨S1x144x256, node 10 slices_S19x144x256_o10_0_0_S1x144x256 q⟩, ⟨S1x144x256, node 11 slices_S19x144x256_o11_0_0_S1x144x256 q⟩, ⟨S1x144x256, node 12 slices_S19x144x256_o12_0_0_S1x144x256 q⟩, ⟨S1x144x256, node 13 slices_S19x144x256_o13_0_0_S1x144x256 q⟩, ⟨S1x144x256, node 14 slices_S19x144x256_o14_0_0_S1x144x256 q⟩, ⟨S1x144x256, node 15 slices_S19x144x256_o15_0_0_S1x144x256 q⟩, ⟨S1x144x256, node 16 slices_S19x144x256_o16_0_0_S1x144x256 q⟩] concatenates_S1x144x256_S1x144x256_S1x144x256_S1x144x256_S1x144x256_S1x144x256_S1x144x256_S1x144x256_S1x144x256_S1x144x256_S1x144x256_S1x144x256_S1x144x256_S1x144x256_S1x144x256_S1x144x256_S1x144x256_S17x144x256_d0) (node 17 slices_S19x144x256_o17_0_0_S1x144x256 k) aw
def sg18 : FVec Ideal S17x144x128 .f32 := score17 (concatenate S17x144x256 0 [⟨S1x144x256, node 0 slices_S19x144x256_o0_0_0_S1x144x256 q⟩, ⟨S1x144x256, node 1 slices_S19x144x256_o1_0_0_S1x144x256 q⟩, ⟨S1x144x256, node 2 slices_S19x144x256_o2_0_0_S1x144x256 q⟩, ⟨S1x144x256, node 3 slices_S19x144x256_o3_0_0_S1x144x256 q⟩, ⟨S1x144x256, node 4 slices_S19x144x256_o4_0_0_S1x144x256 q⟩, ⟨S1x144x256, node 5 slices_S19x144x256_o5_0_0_S1x144x256 q⟩, ⟨S1x144x256, node 6 slices_S19x144x256_o6_0_0_S1x144x256 q⟩, ⟨S1x144x256, node 7 slices_S19x144x256_o7_0_0_S1x144x256 q⟩, ⟨S1x144x256, node 8 slices_S19x144x256_o8_0_0_S1x144x256 q⟩, ⟨S1x144x256, node 9 slices_S19x144x256_o9_0_0_S1x144x256 q⟩, ⟨S1x144x256, node 10 slices_S19x144x256_o10_0_0_S1x144x256 q⟩, ⟨S1x144x256, node 11 slices_S19x144x256_o11_0_0_S1x144x256 q⟩, ⟨S1x144x256, node 12 slices_S19x144x256_o12_0_0_S1x144x256 q⟩, ⟨S1x144x256, node 13 slices_S19x144x256_o13_0_0_S1x144x256 q⟩, ⟨S1x144x256, node 14 slices_S19x144x256_o14_0_0_S1x144x256 q⟩, ⟨S1x144x256, node 15 slices_S19x144x256_o15_0_0_S1x144x256 q⟩, ⟨S1x144x256, node 16 slices_S19x144x256_o16_0_0_S1x144x256 q⟩] concatenates_S1x144x256_S1x144x256_S1x144x256_S1x144x256_S1x144x256_S1x144x256_S1x144x256_S1x144x256_S1x144x256_S1x144x256_S1x144x256_S1x144x256_S1x144x256_S1x144x256_S1x144x256_S1x144x256_S1x144x256_S17x144x256_d0) (node 18 slices_S19x144x256_o18_0_0_S1x144x256 k) aw

def m1 : FVec Ideal S144x128 .f32 := maxi8 (sg0 q k aw) m0
def m2 : FVec Ideal S144x128 .f32 := maxi7 (sg1 q k aw) (m1 q k aw)
def m3 : FVec Ideal S144x128 .f32 := maxi5 (sg2 q k aw) (m2 q k aw)
def m4 : FVec Ideal S144x128 .f32 := maxi4 (sg3 q k aw) (m3 q k aw)
def m5 : FVec Ideal S144x128 .f32 := maxi7 (sg4 q k aw) (m4 q k aw)
def m6 : FVec Ideal S144x128 .f32 := maxi5 (sg5 q k aw) (m5 q k aw)
def m7 : FVec Ideal S144x128 .f32 := maxi4 (sg6 q k aw) (m6 q k aw)
def m8 : FVec Ideal S144x128 .f32 := maxi9 (sg7 q k aw) (m7 q k aw)
def m9 : FVec Ideal S144x128 .f32 := maxi10 (sg8 q k aw) (m8 q k aw)
def m10 : FVec Ideal S144x128 .f32 := maxi7 (sg9 q k aw) (m9 q k aw)
def m11 : FVec Ideal S144x128 .f32 := maxi4 (sg10 q k aw) (m10 q k aw)
def m12 : FVec Ideal S144x128 .f32 := maxi8 (sg11 q k aw) (m11 q k aw)
def m13 : FVec Ideal S144x128 .f32 := maxi5 (sg12 q k aw) (m12 q k aw)
def m14 : FVec Ideal S144x128 .f32 := maxi4 (sg13 q k aw) (m13 q k aw)
def m15 : FVec Ideal S144x128 .f32 := maxi8 (sg14 q k aw) (m14 q k aw)
def m16 : FVec Ideal S144x128 .f32 := maxi5 (sg15 q k aw) (m15 q k aw)
def m17 : FVec Ideal S144x128 .f32 := maxi4 (sg16 q k aw) (m16 q k aw)
def m18 : FVec Ideal S144x128 .f32 := maxi17 (sg17 q k aw) (m17 q k aw)
def m19 : FVec Ideal S144x128 .f32 := maxi17 (sg18 q k aw) (m18 q k aw)

def e0 : FVec Ideal S8x144x128 .f32 := expo8 (sg0 q k aw) (m19 q k aw)
def e1 : FVec Ideal S7x144x128 .f32 := expo7 (sg1 q k aw) (m19 q k aw)
def e2 : FVec Ideal S5x144x128 .f32 := expo5 (sg2 q k aw) (m19 q k aw)
def e3 : FVec Ideal S4x144x128 .f32 := expo4 (sg3 q k aw) (m19 q k aw)
def e4 : FVec Ideal S7x144x128 .f32 := expo7 (sg4 q k aw) (m19 q k aw)
def e5 : FVec Ideal S5x144x128 .f32 := expo5 (sg5 q k aw) (m19 q k aw)
def e6 : FVec Ideal S4x144x128 .f32 := expo4 (sg6 q k aw) (m19 q k aw)
def e7 : FVec Ideal S9x144x128 .f32 := expo9 (sg7 q k aw) (m19 q k aw)
def e8 : FVec Ideal S10x144x128 .f32 := expo10 (sg8 q k aw) (m19 q k aw)
def e9 : FVec Ideal S7x144x128 .f32 := expo7 (sg9 q k aw) (m19 q k aw)
def e10 : FVec Ideal S4x144x128 .f32 := expo4 (sg10 q k aw) (m19 q k aw)
def e11 : FVec Ideal S8x144x128 .f32 := expo8 (sg11 q k aw) (m19 q k aw)
def e12 : FVec Ideal S5x144x128 .f32 := expo5 (sg12 q k aw) (m19 q k aw)
def e13 : FVec Ideal S4x144x128 .f32 := expo4 (sg13 q k aw) (m19 q k aw)
def e14 : FVec Ideal S8x144x128 .f32 := expo8 (sg14 q k aw) (m19 q k aw)
def e15 : FVec Ideal S5x144x128 .f32 := expo5 (sg15 q k aw) (m19 q k aw)
def e16 : FVec Ideal S4x144x128 .f32 := expo4 (sg16 q k aw) (m19 q k aw)
def e17 : FVec Ideal S17x144x128 .f32 := expo17 (sg17 q k aw) (m19 q k aw)
def e18 : FVec Ideal S17x144x128 .f32 := expo17 (sg18 q k aw) (m19 q k aw)

def den0 : FVec Ideal S144x128 .f32 := vsum [pick7 0 slices_S7x144x128_o0_0_0_S1x144x128 (e1 q k aw), pick5 0 slices_S5x144x128_o0_0_0_S1x144x128 (e2 q k aw), pick7 0 slices_S7x144x128_o0_0_0_S1x144x128 (e4 q k aw), pick5 0 slices_S5x144x128_o0_0_0_S1x144x128 (e5 q k aw), pick9 0 slices_S9x144x128_o0_0_0_S1x144x128 (e7 q k aw), pick10 0 slices_S10x144x128_o0_0_0_S1x144x128 (e8 q k aw), pick17 0 slices_S17x144x128_o0_0_0_S1x144x128 (e17 q k aw), pick17 0 slices_S17x144x128_o0_0_0_S1x144x128 (e18 q k aw)]
def acc0 : FVec Ideal S144x128 .f32 := vsum [mulf (pick7 0 slices_S7x144x128_o0_0_0_S1x144x128 (e1 q k aw)) (vnode 1 slices_S19x144x128_o1_0_0_S1x144x128 v), mulf (pick5 0 slices_S5x144x128_o0_0_0_S1x144x128 (e2 q k aw)) (vnode 2 slices_S19x144x128_o2_0_0_S1x144x128 v), mulf (pick7 0 slices_S7x144x128_o0_0_0_S1x144x128 (e4 q k aw)) (vnode 4 slices_S19x144x128_o4_0_0_S1x144x128 v), mulf (pick5 0 slices_S5x144x128_o0_0_0_S1x144x128 (e5 q k aw)) (vnode 5 slices_S19x144x128_o5_0_0_S1x144x128 v), mulf (pick9 0 slices_S9x144x128_o0_0_0_S1x144x128 (e7 q k aw)) (vnode 7 slices_S19x144x128_o7_0_0_S1x144x128 v), mulf (pick10 0 slices_S10x144x128_o0_0_0_S1x144x128 (e8 q k aw)) (vnode 8 slices_S19x144x128_o8_0_0_S1x144x128 v), mulf (pick17 0 slices_S17x144x128_o0_0_0_S1x144x128 (e17 q k aw)) (vnode 17 slices_S19x144x128_o17_0_0_S1x144x128 v), mulf (pick17 0 slices_S17x144x128_o0_0_0_S1x144x128 (e18 q k aw)) (vnode 18 slices_S19x144x128_o18_0_0_S1x144x128 v)]
def den1 : FVec Ideal S144x128 .f32 := vsum [pick8 0 slices_S8x144x128_o0_0_0_S1x144x128 (e0 q k aw), pick5 1 slices_S5x144x128_o1_0_0_S1x144x128 (e2 q k aw), pick4 0 slices_S4x144x128_o0_0_0_S1x144x128 (e3 q k aw), pick7 1 slices_S7x144x128_o1_0_0_S1x144x128 (e4 q k aw), pick9 1 slices_S9x144x128_o1_0_0_S1x144x128 (e7 q k aw), pick17 1 slices_S17x144x128_o1_0_0_S1x144x128 (e17 q k aw), pick17 1 slices_S17x144x128_o1_0_0_S1x144x128 (e18 q k aw)]
def acc1 : FVec Ideal S144x128 .f32 := vsum [mulf (pick8 0 slices_S8x144x128_o0_0_0_S1x144x128 (e0 q k aw)) (vnode 0 slices_S19x144x128_o0_0_0_S1x144x128 v), mulf (pick5 1 slices_S5x144x128_o1_0_0_S1x144x128 (e2 q k aw)) (vnode 2 slices_S19x144x128_o2_0_0_S1x144x128 v), mulf (pick4 0 slices_S4x144x128_o0_0_0_S1x144x128 (e3 q k aw)) (vnode 3 slices_S19x144x128_o3_0_0_S1x144x128 v), mulf (pick7 1 slices_S7x144x128_o1_0_0_S1x144x128 (e4 q k aw)) (vnode 4 slices_S19x144x128_o4_0_0_S1x144x128 v), mulf (pick9 1 slices_S9x144x128_o1_0_0_S1x144x128 (e7 q k aw)) (vnode 7 slices_S19x144x128_o7_0_0_S1x144x128 v), mulf (pick17 1 slices_S17x144x128_o1_0_0_S1x144x128 (e17 q k aw)) (vnode 17 slices_S19x144x128_o17_0_0_S1x144x128 v), mulf (pick17 1 slices_S17x144x128_o1_0_0_S1x144x128 (e18 q k aw)) (vnode 18 slices_S19x144x128_o18_0_0_S1x144x128 v)]
def den2 : FVec Ideal S144x128 .f32 := vsum [pick8 1 slices_S8x144x128_o1_0_0_S1x144x128 (e0 q k aw), pick7 1 slices_S7x144x128_o1_0_0_S1x144x128 (e1 q k aw), pick4 1 slices_S4x144x128_o1_0_0_S1x144x128 (e3 q k aw), pick17 2 slices_S17x144x128_o2_0_0_S1x144x128 (e17 q k aw), pick17 2 slices_S17x144x128_o2_0_0_S1x144x128 (e18 q k aw)]
def acc2 : FVec Ideal S144x128 .f32 := vsum [mulf (pick8 1 slices_S8x144x128_o1_0_0_S1x144x128 (e0 q k aw)) (vnode 0 slices_S19x144x128_o0_0_0_S1x144x128 v), mulf (pick7 1 slices_S7x144x128_o1_0_0_S1x144x128 (e1 q k aw)) (vnode 1 slices_S19x144x128_o1_0_0_S1x144x128 v), mulf (pick4 1 slices_S4x144x128_o1_0_0_S1x144x128 (e3 q k aw)) (vnode 3 slices_S19x144x128_o3_0_0_S1x144x128 v), mulf (pick17 2 slices_S17x144x128_o2_0_0_S1x144x128 (e17 q k aw)) (vnode 17 slices_S19x144x128_o17_0_0_S1x144x128 v), mulf (pick17 2 slices_S17x144x128_o2_0_0_S1x144x128 (e18 q k aw)) (vnode 18 slices_S19x144x128_o18_0_0_S1x144x128 v)]
def den3 : FVec Ideal S144x128 .f32 := vsum [pick7 2 slices_S7x144x128_o2_0_0_S1x144x128 (e1 q k aw), pick5 2 slices_S5x144x128_o2_0_0_S1x144x128 (e2 q k aw), pick17 3 slices_S17x144x128_o3_0_0_S1x144x128 (e17 q k aw), pick17 3 slices_S17x144x128_o3_0_0_S1x144x128 (e18 q k aw)]
def acc3 : FVec Ideal S144x128 .f32 := vsum [mulf (pick7 2 slices_S7x144x128_o2_0_0_S1x144x128 (e1 q k aw)) (vnode 1 slices_S19x144x128_o1_0_0_S1x144x128 v), mulf (pick5 2 slices_S5x144x128_o2_0_0_S1x144x128 (e2 q k aw)) (vnode 2 slices_S19x144x128_o2_0_0_S1x144x128 v), mulf (pick17 3 slices_S17x144x128_o3_0_0_S1x144x128 (e17 q k aw)) (vnode 17 slices_S19x144x128_o17_0_0_S1x144x128 v), mulf (pick17 3 slices_S17x144x128_o3_0_0_S1x144x128 (e18 q k aw)) (vnode 18 slices_S19x144x128_o18_0_0_S1x144x128 v)]
def den4 : FVec Ideal S144x128 .f32 := vsum [pick8 2 slices_S8x144x128_o2_0_0_S1x144x128 (e0 q k aw), pick7 3 slices_S7x144x128_o3_0_0_S1x144x128 (e1 q k aw), pick5 1 slices_S5x144x128_o1_0_0_S1x144x128 (e5 q k aw), pick4 0 slices_S4x144x128_o0_0_0_S1x144x128 (e6 q k aw), pick9 2 slices_S9x144x128_o2_0_0_S1x144x128 (e7 q k aw), pick17 4 slices_S17x144x128_o4_0_0_S1x144x128 (e17 q k aw), pick17 4 slices_S17x144x128_o4_0_0_S1x144x128 (e18 q k aw)]
def acc4 : FVec Ideal S144x128 .f32 := vsum [mulf (pick8 2 slices_S8x144x128_o2_0_0_S1x144x128 (e0 q k aw)) (vnode 0 slices_S19x144x128_o0_0_0_S1x144x128 v), mulf (pick7 3 slices_S7x144x128_o3_0_0_S1x144x128 (e1 q k aw)) (vnode 1 slices_S19x144x128_o1_0_0_S1x144x128 v), mulf (pick5 1 slices_S5x144x128_o1_0_0_S1x144x128 (e5 q k aw)) (vnode 5 slices_S19x144x128_o5_0_0_S1x144x128 v), mulf (pick4 0 slices_S4x144x128_o0_0_0_S1x144x128 (e6 q k aw)) (vnode 6 slices_S19x144x128_o6_0_0_S1x144x128 v), mulf (pick9 2 slices_S9x144x128_o2_0_0_S1x144x128 (e7 q k aw)) (vnode 7 slices_S19x144x128_o7_0_0_S1x144x128 v), mulf (pick17 4 slices_S17x144x128_o4_0_0_S1x144x128 (e17 q k aw)) (vnode 17 slices_S19x144x128_o17_0_0_S1x144x128 v), mulf (pick17 4 slices_S17x144x128_o4_0_0_S1x144x128 (e18 q k aw)) (vnode 18 slices_S19x144x128_o18_0_0_S1x144x128 v)]
def den5 : FVec Ideal S144x128 .f32 := vsum [pick8 3 slices_S8x144x128_o3_0_0_S1x144x128 (e0 q k aw), pick7 2 slices_S7x144x128_o2_0_0_S1x144x128 (e4 q k aw), pick4 1 slices_S4x144x128_o1_0_0_S1x144x128 (e6 q k aw), pick17 5 slices_S17x144x128_o5_0_0_S1x144x128 (e17 q k aw), pick17 5 slices_S17x144x128_o5_0_0_S1x144x128 (e18 q k aw)]
def acc5 : FVec Ideal S144x128 .f32 := vsum [mulf (pick8 3 slices_S8x144x128_o3_0_0_S1x144x128 (e0 q k aw)) (vnode 0 slices_S19x144x128_o0_0_0_S1x144x128 v), mulf (pick7 2 slices_S7x144x128_o2_0_0_S1x144x128 (e4 q k aw)) (vnode 4 slices_S19x144x128_o4_0_0_S1x144x128 v), mulf (pick4 1 slices_S4x144x128_o1_0_0_S1x144x128 (e6 q k aw)) (vnode 6 slices_S19x144x128_o6_0_0_S1x144x128 v), mulf (pick17 5 slices_S17x144x128_o5_0_0_S1x144x128 (e17 q k aw)) (vnode 17 slices_S19x144x128_o17_0_0_S1x144x128 v), mulf (pick17 5 slices_S17x144x128_o5_0_0_S1x144x128 (e18 q k aw)) (vnode 18 slices_S19x144x128_o18_0_0_S1x144x128 v)]
def den6 : FVec Ideal S144x128 .f32 := vsum [pick7 3 slices_S7x144x128_o3_0_0_S1x144x128 (e4 q k aw), pick5 2 slices_S5x144x128_o2_0_0_S1x144x128 (e5 q k aw), pick17 6 slices_S17x144x128_o6_0_0_S1x144x128 (e17 q k aw), pick17 6 slices_S17x144x128_o6_0_0_S1x144x128 (e18 q k aw)]
def acc6 : FVec Ideal S144x128 .f32 := vsum [mulf (pick7 3 slices_S7x144x128_o3_0_0_S1x144x128 (e4 q k aw)) (vnode 4 slices_S19x144x128_o4_0_0_S1x144x128 v), mulf (pick5 2 slices_S5x144x128_o2_0_0_S1x144x128 (e5 q k aw)) (vnode 5 slices_S19x144x128_o5_0_0_S1x144x128 v), mulf (pick17 6 slices_S17x144x128_o6_0_0_S1x144x128 (e17 q k aw)) (vnode 17 slices_S19x144x128_o17_0_0_S1x144x128 v), mulf (pick17 6 slices_S17x144x128_o6_0_0_S1x144x128 (e18 q k aw)) (vnode 18 slices_S19x144x128_o18_0_0_S1x144x128 v)]
def den7 : FVec Ideal S144x128 .f32 := vsum [pick8 4 slices_S8x144x128_o4_0_0_S1x144x128 (e0 q k aw), pick7 4 slices_S7x144x128_o4_0_0_S1x144x128 (e1 q k aw), pick7 4 slices_S7x144x128_o4_0_0_S1x144x128 (e4 q k aw), pick10 1 slices_S10x144x128_o1_0_0_S1x144x128 (e8 q k aw), pick7 0 slices_S7x144x128_o0_0_0_S1x144x128 (e9 q k aw), pick8 0 slices_S8x144x128_o0_0_0_S1x144x128 (e11 q k aw), pick8 0 slices_S8x144x128_o0_0_0_S1x144x128 (e14 q k aw), pick17 7 slices_S17x144x128_o7_0_0_S1x144x128 (e17 q k aw), pick17 7 slices_S17x144x128_o7_0_0_S1x144x128 (e18 q k aw)]
def acc7 : FVec Ideal S144x128 .f32 := vsum [mulf (pick8 4 slices_S8x144x128_o4_0_0_S1x144x128 (e0 q k aw)) (vnode 0 slices_S19x144x128_o0_0_0_S1x144x128 v), mulf (pick7 4 slices_S7x144x128_o4_0_0_S1x144x128 (e1 q k aw)) (vnode 1 slices_S19x144x128_o1_0_0_S1x144x128 v), mulf (pick7 4 slices_S7x144x128_o4_0_0_S1x144x128 (e4 q k aw)) (vnode 4 slices_S19x144x128_o4_0_0_S1x144x128 v), mulf (pick10 1 slices_S10x144x128_o1_0_0_S1x144x128 (e8 q k aw)) (vnode 8 slices_S19x144x128_o8_0_0_S1x144x128 v), mulf (pick7 0 slices_S7x144x128_o0_0_0_S1x144x128 (e9 q k aw)) (vnode 9 slices_S19x144x128_o9_0_0_S1x144x128 v), mulf (pick8 0 slices_S8x144x128_o0_0_0_S1x144x128 (e11 q k aw)) (vnode 11 slices_S19x144x128_o11_0_0_S1x144x128 v), mulf (pick8 0 slices_S8x144x128_o0_0_0_S1x144x128 (e14 q k aw)) (vnode 14 slices_S19x144x128_o14_0_0_S1x144x128 v), mulf (pick17 7 slices_S17x144x128_o7_0_0_S1x144x128 (e17 q k aw)) (vnode 17 slices_S19x144x128_o17_0_0_S1x144x128 v), mulf (pick17 7 slices_S17x144x128_o7_0_0_S1x144x128 (e18 q k aw)) (vnode 18 slices_S19x144x128_o18_0_0_S1x144x128 v)]
def den8 : FVec Ideal S144x128 .f32 := vsum [pick8 5 slices_S8x144x128_o5_0_0_S1x144x128 (e0 q k aw), pick9 3 slices_S9x144x128_o3_0_0_S1x144x128 (e7 q k aw), pick7 1 slices_S7x144x128_o1_0_0_S1x144x128 (e9 q k aw), pick4 0 slices_S4x144x128_o0_0_0_S1x144x128 (e10 q k aw), pick8 1 slices_S8x144x128_o1_0_0_S1x144x128 (e11 q k aw), pick5 0 slices_S5x144x128_o0_0_0_S1x144x128 (e12 q k aw), pick8 1 slices_S8x144x128_o1_0_0_S1x144x128 (e14 q k aw), pick5 0 slices_S5x144x128_o0_0_0_S1x144x128 (e15 q k aw), pick17 8 slices_S17x144x128_o8_0_0_S1x144x128 (e17 q k aw), pick17 8 slices_S17x144x128_o8_0_0_S1x144x128 (e18 q k aw)]
def acc8 : FVec Ideal S144x128 .f32 := vsum [mulf (pick8 5 slices_S8x144x128_o5_0_0_S1x144x128 (e0 q k aw)) (vnode 0 slices_S19x144x128_o0_0_0_S1x144x128 v), mulf (pick9 3 slices_S9x144x128_o3_0_0_S1x144x128 (e7 q k aw)) (vnode 7 slices_S19x144x128_o7_0_0_S1x144x128 v), mulf (pick7 1 slices_S7x144x128_o1_0_0_S1x144x128 (e9 q k aw)) (vnode 9 slices_S19x144x128_o9_0_0_S1x144x128 v), mulf (pick4 0 slices_S4x144x128_o0_0_0_S1x144x128 (e10 q k aw)) (vnode 10 slices_S19x144x128_o10_0_0_S1x144x128 v), mulf (pick8 1 slices_S8x144x128_o1_0_0_S1x144x128 (e11 q k aw)) (vnode 11 slices_S19x144x128_o11_0_0_S1x144x128 v), mulf (pick5 0 slices_S5x144x128_o0_0_0_S1x144x128 (e12 q k aw)) (vnode 12 slices_S19x144x128_o12_0_0_S1x144x128 v), mulf (pick8 1 slices_S8x144x128_o1_0_0_S1x144x128 (e14 q k aw)) (vnode 14 slices_S19x144x128_o14_0_0_S1x144x128 v), mulf (pick5 0 slices_S5x144x128_o0_0_0_S1x144x128 (e15 q k aw)) (vnode 15 slices_S19x144x128_o15_0_0_S1x144x128 v), mulf (pick17 8 slices_S17x144x128_o8_0_0_S1x144x128 (e17 q k aw)) (vnode 17 slices_S19x144x128_o17_0_0_S1x144x128 v), mulf (pick17 8 slices_S17x144x128_o8_0_0_S1x144x128 (e18 q k aw)) (vnode 18 slices_S19x144x128_o18_0_0_S1x144x128 v)]
def den9 : FVec Ideal S144x128 .f32 := vsum [pick9 4 slices_S9x144x128_o4_0_0_S1x144x128 (e7 q k aw), pick10 2 slices_S10x144x128_o2_0_0_S1x144x128 (e8 q k aw), pick4 1 slices_S4x144x128_o1_0_0_S1x144x128 (e10 q k aw), pick8 2 slices_S8x144x128_o2_0_0_S1x144x128 (e11 q k aw), pick8 2 slices_S8x144x128_o2_0_0_S1x144x128 (e14 q k aw), pick17 9 slices_S17x144x128_o9_0_0_S1x144x128 (e17 q k aw), pick17 9 slices_S17x144x128_o9_0_0_S1x144x128 (e18 q k aw)]
def acc9 : FVec Ideal S144x128 .f32 := vsum [mulf (pick9 4 slices_S9x144x128_o4_0_0_S1x144x128 (e7 q k aw)) (vnode 7 slices_S19x144x128_o7_0_0_S1x144x128 v), mulf (pick10 2 slices_S10x144x128_o2_0_0_S1x144x128 (e8 q k aw)) (vnode 8 slices_S19x144x128_o8_0_0_S1x144x128 v), mulf (pick4 1 slices_S4x144x128_o1_0_0_S1x144x128 (e10 q k aw)) (vnode 10 slices_S19x144x128_o10_0_0_S1x144x128 v), mulf (pick8 2 slices_S8x144x128_o2_0_0_S1x144x128 (e11 q k aw)) (vnode 11 slices_S19x144x128_o11_0_0_S1x144x128 v), mulf (pick8 2 slices_S8x144x128_o2_0_0_S1x144x128 (e14 q k aw)) (vnode 14 slices_S19x144x128_o14_0_0_S1x144x128 v), mulf (pick17 9 slices_S17x144x128_o9_0_0_S1x144x128 (e17 q k aw)) (vnode 17 slices_S19x144x128_o17_0_0_S1x144x128 v), mulf (pick17 9 slices_S17x144x128_o9_0_0_S1x144x128 (e18 q k aw)) (vnode 18 slices_S19x144x128_o18_0_0_S1x144x128 v)]
def den10 : FVec Ideal S144x128 .f32 := vsum [pick10 3 slices_S10x144x128_o3_0_0_S1x144x128 (e8 q k aw), pick7 2 slices_S7x144x128_o2_0_0_S1x144x128 (e9 q k aw), pick17 10 slices_S17x144x128_o10_0_0_S1x144x128 (e17 q k aw), pick17 10 slices_S17x144x128_o10_0_0_S1x144x128 (e18 q k aw)]
def acc10 : FVec Ideal S144x128 .f32 := vsum [mulf (pick10 3 slices_S10x144x128_o3_0_0_S1x144x128 (e8 q k aw)) (vnode 8 slices_S19x144x128_o8_0_0_S1x144x128 v), mulf (pick7 2 slices_S7x144x128_o2_0_0_S1x144x128 (e9 q k aw)) (vnode 9 slices_S19x144x128_o9_0_0_S1x144x128 v), mulf (pick17 10 slices_S17x144x128_o10_0_0_S1x144x128 (e17 q k aw)) (vnode 17 slices_S19x144x128_o17_0_0_S1x144x128 v), mulf (pick17 10 slices_S17x144x128_o10_0_0_S1x144x128 (e18 q k aw)) (vnode 18 slices_S19x144x128_o18_0_0_S1x144x128 v)]
def den11 : FVec Ideal S144x128 .f32 := vsum [pick9 5 slices_S9x144x128_o5_0_0_S1x144x128 (e7 q k aw), pick10 4 slices_S10x144x128_o4_0_0_S1x144x128 (e8 q k aw), pick7 3 slices_S7x144x128_o3_0_0_S1x144x128 (e9 q k aw), pick5 1 slices_S5x144x128_o1_0_0_S1x144x128 (e12 q k aw), pick4 0 slices_S4x144x128_o0_0_0_S1x144x128 (e13 q k aw), pick8 3 slices_S8x144x128_o3_0_0_S1x144x128 (e14 q k aw), pick17 11 slices_S17x144x128_o11_0_0_S1x144x128 (e17 q k aw), pick17 11 slices_S17x144x128_o11_0_0_S1x144x128 (e18 q k aw)]
def acc11 : FVec Ideal S144x128 .f32 := vsum [mulf (pick9 5 slices_S9x144x128_o5_0_0_S1x144x128 (e7 q k aw)) (vnode 7 slices_S19x144x128_o7_0_0_S1x144x128 v), mulf (pick10 4 slices_S10x144x128_o4_0_0_S1x144x128 (e8 q k aw)) (vnode 8 slices_S19x144x128_o8_0_0_S1x144x128 v), mulf (pick7 3 slices_S7x144x128_o3_0_0_S1x144x128 (e9 q k aw)) (vnode 9 slices_S19x144x128_o9_0_0_S1x144x128 v), mulf (pick5 1 slices_S5x144x128_o1_0_0_S1x144x128 (e12 q k aw)) (vnode 12 slices_S19x144x128_o12_0_0_S1x144x128 v), mulf (pick4 0 slices_S4x144x128_o0_0_0_S1x144x128 (e13 q k aw)) (vnode 13 slices_S19x144x128_o13_0_0_S1x144x128 v), mulf (pick8 3 slices_S8x144x128_o3_0_0_S1x144x128 (e14 q k aw)) (vnode 14 slices_S19x144x128_o14_0_0_S1x144x128 v), mulf (pick17 11 slices_S17x144x128_o11_0_0_S1x144x128 (e17 q k aw)) (vnode 17 slices_S19x144x128_o17_0_0_S1x144x128 v), mulf (pick17 11 slices_S17x144x128_o11_0_0_S1x144x128 (e18 q k aw)) (vnode 18 slices_S19x144x128_o18_0_0_S1x144x128 v)]
def den12 : FVec Ideal S144x128 .f32 := vsum [pick10 5 slices_S10x144x128_o5_0_0_S1x144x128 (e8 q k aw), pick8 3 slices_S8x144x128_o3_0_0_S1x144x128 (e11 q k aw), pick4 1 slices_S4x144x128_o1_0_0_S1x144x128 (e13 q k aw), pick17 12 slices_S17x144x128_o12_0_0_S1x144x128 (e17 q k aw), pick17 12 slices_S17x144x128_o12_0_0_S1x144x128 (e18 q k aw)]
def acc12 : FVec Ideal S144x128 .f32 := vsum [mulf (pick10 5 slices_S10x144x128_o5_0_0_S1x144x128 (e8 q k aw)) (vnode 8 slices_S19x144x128_o8_0_0_S1x144x128 v), mulf (pick8 3 slices_S8x144x128_o3_0_0_S1x144x128 (e11 q k aw)) (vnode 11 slices_S19x144x128_o11_0_0_S1x144x128 v), mulf (pick4 1 slices_S4x144x128_o1_0_0_S1x144x128 (e13 q k aw)) (vnode 13 slices_S19x144x128_o13_0_0_S1x144x128 v), mulf (pick17 12 slices_S17x144x128_o12_0_0_S1x144x128 (e17 q k aw)) (vnode 17 slices_S19x144x128_o17_0_0_S1x144x128 v), mulf (pick17 12 slices_S17x144x128_o12_0_0_S1x144x128 (e18 q k aw)) (vnode 18 slices_S19x144x128_o18_0_0_S1x144x128 v)]
def den13 : FVec Ideal S144x128 .f32 := vsum [pick8 4 slices_S8x144x128_o4_0_0_S1x144x128 (e11 q k aw), pick5 2 slices_S5x144x128_o2_0_0_S1x144x128 (e12 q k aw), pick17 13 slices_S17x144x128_o13_0_0_S1x144x128 (e17 q k aw), pick17 13 slices_S17x144x128_o13_0_0_S1x144x128 (e18 q k aw)]
def acc13 : FVec Ideal S144x128 .f32 := vsum [mulf (pick8 4 slices_S8x144x128_o4_0_0_S1x144x128 (e11 q k aw)) (vnode 11 slices_S19x144x128_o11_0_0_S1x144x128 v), mulf (pick5 2 slices_S5x144x128_o2_0_0_S1x144x128 (e12 q k aw)) (vnode 12 slices_S19x144x128_o12_0_0_S1x144x128 v), mulf (pick17 13 slices_S17x144x128_o13_0_0_S1x144x128 (e17 q k aw)) (vnode 17 slices_S19x144x128_o17_0_0_S1x144x128 v), mulf (pick17 13 slices_S17x144x128_o13_0_0_S1x144x128 (e18 q k aw)) (vnode 18 slices_S19x144x128_o18_0_0_S1x144x128 v)]
def den14 : FVec Ideal S144x128 .f32 := vsum [pick9 6 slices_S9x144x128_o6_0_0_S1x144x128 (e7 q k aw), pick10 6 slices_S10x144x128_o6_0_0_S1x144x128 (e8 q k aw), pick7 4 slices_S7x144x128_o4_0_0_S1x144x128 (e9 q k aw), pick8 5 slices_S8x144x128_o5_0_0_S1x144x128 (e11 q k aw), pick5 1 slices_S5x144x128_o1_0_0_S1x144x128 (e15 q k aw), pick4 0 slices_S4x144x128_o0_0_0_S1x144x128 (e16 q k aw), pick17 14 slices_S17x144x128_o14_0_0_S1x144x128 (e17 q k aw), pick17 14 slices_S17x144x128_o14_0_0_S1x144x128 (e18 q k aw)]
def acc14 : FVec Ideal S144x128 .f32 := vsum [mulf (pick9 6 slices_S9x144x128_o6_0_0_S1x144x128 (e7 q k aw)) (vnode 7 slices_S19x144x128_o7_0_0_S1x144x128 v), mulf (pick10 6 slices_S10x144x128_o6_0_0_S1x144x128 (e8 q k aw)) (vnode 8 slices_S19x144x128_o8_0_0_S1x144x128 v), mulf (pick7 4 slices_S7x144x128_o4_0_0_S1x144x128 (e9 q k aw)) (vnode 9 slices_S19x144x128_o9_0_0_S1x144x128 v), mulf (pick8 5 slices_S8x144x128_o5_0_0_S1x144x128 (e11 q k aw)) (vnode 11 slices_S19x144x128_o11_0_0_S1x144x128 v), mulf (pick5 1 slices_S5x144x128_o1_0_0_S1x144x128 (e15 q k aw)) (vnode 15 slices_S19x144x128_o15_0_0_S1x144x128 v), mulf (pick4 0 slices_S4x144x128_o0_0_0_S1x144x128 (e16 q k aw)) (vnode 16 slices_S19x144x128_o16_0_0_S1x144x128 v), mulf (pick17 14 slices_S17x144x128_o14_0_0_S1x144x128 (e17 q k aw)) (vnode 17 slices_S19x144x128_o17_0_0_S1x144x128 v), mulf (pick17 14 slices_S17x144x128_o14_0_0_S1x144x128 (e18 q k aw)) (vnode 18 slices_S19x144x128_o18_0_0_S1x144x128 v)]
def den15 : FVec Ideal S144x128 .f32 := vsum [pick10 7 slices_S10x144x128_o7_0_0_S1x144x128 (e8 q k aw), pick8 4 slices_S8x144x128_o4_0_0_S1x144x128 (e14 q k aw), pick4 1 slices_S4x144x128_o1_0_0_S1x144x128 (e16 q k aw), pick17 15 slices_S17x144x128_o15_0_0_S1x144x128 (e17 q k aw), pick17 15 slices_S17x144x128_o15_0_0_S1x144x128 (e18 q k aw)]
def acc15 : FVec Ideal S144x128 .f32 := vsum [mulf (pick10 7 slices_S10x144x128_o7_0_0_S1x144x128 (e8 q k aw)) (vnode 8 slices_S19x144x128_o8_0_0_S1x144x128 v), mulf (pick8 4 slices_S8x144x128_o4_0_0_S1x144x128 (e14 q k aw)) (vnode 14 slices_S19x144x128_o14_0_0_S1x144x128 v), mulf (pick4 1 slices_S4x144x128_o1_0_0_S1x144x128 (e16 q k aw)) (vnode 16 slices_S19x144x128_o16_0_0_S1x144x128 v), mulf (pick17 15 slices_S17x144x128_o15_0_0_S1x144x128 (e17 q k aw)) (vnode 17 slices_S19x144x128_o17_0_0_S1x144x128 v), mulf (pick17 15 slices_S17x144x128_o15_0_0_S1x144x128 (e18 q k aw)) (vnode 18 slices_S19x144x128_o18_0_0_S1x144x128 v)]
def den16 : FVec Ideal S144x128 .f32 := vsum [pick8 5 slices_S8x144x128_o5_0_0_S1x144x128 (e14 q k aw), pick5 2 slices_S5x144x128_o2_0_0_S1x144x128 (e15 q k aw), pick17 16 slices_S17x144x128_o16_0_0_S1x144x128 (e17 q k aw), pick17 16 slices_S17x144x128_o16_0_0_S1x144x128 (e18 q k aw)]
def acc16 : FVec Ideal S144x128 .f32 := vsum [mulf (pick8 5 slices_S8x144x128_o5_0_0_S1x144x128 (e14 q k aw)) (vnode 14 slices_S19x144x128_o14_0_0_S1x144x128 v), mulf (pick5 2 slices_S5x144x128_o2_0_0_S1x144x128 (e15 q k aw)) (vnode 15 slices_S19x144x128_o15_0_0_S1x144x128 v), mulf (pick17 16 slices_S17x144x128_o16_0_0_S1x144x128 (e17 q k aw)) (vnode 17 slices_S19x144x128_o17_0_0_S1x144x128 v), mulf (pick17 16 slices_S17x144x128_o16_0_0_S1x144x128 (e18 q k aw)) (vnode 18 slices_S19x144x128_o18_0_0_S1x144x128 v)]
def den17 : FVec Ideal S144x128 .f32 := vsum [pick8 6 slices_S8x144x128_o6_0_0_S1x144x128 (e0 q k aw), pick7 5 slices_S7x144x128_o5_0_0_S1x144x128 (e1 q k aw), pick5 3 slices_S5x144x128_o3_0_0_S1x144x128 (e2 q k aw), pick4 2 slices_S4x144x128_o2_0_0_S1x144x128 (e3 q k aw), pick7 5 slices_S7x144x128_o5_0_0_S1x144x128 (e4 q k aw), pick5 3 slices_S5x144x128_o3_0_0_S1x144x128 (e5 q k aw), pick4 2 slices_S4x144x128_o2_0_0_S1x144x128 (e6 q k aw), pick9 7 slices_S9x144x128_o7_0_0_S1x144x128 (e7 q k aw), pick10 8 slices_S10x144x128_o8_0_0_S1x144x128 (e8 q k aw), pick7 5 slices_S7x144x128_o5_0_0_S1x144x128 (e9 q k aw), pick4 2 slices_S4x144x128_o2_0_0_S1x144x128 (e10 q k aw), pick8 6 slices_S8x144x128_o6_0_0_S1x144x128 (e11 q k aw), pick5 3 slices_S5x144x128_o3_0_0_S1x144x128 (e12 q k aw), pick4 2 slices_S4x144x128_o2_0_0_S1x144x128 (e13 q k aw), pick8 6 slices_S8x144x128_o6_0_0_S1x144x128 (e14 q k aw), pick5 3 slices_S5x144x128_o3_0_0_S1x144x128 (e15 q k aw), pick4 2 slices_S4x144x128_o2_0_0_S1x144x128 (e16 q k aw)]
def acc17 : FVec Ideal S144x128 .f32 := vsum [mulf (pick8 6 slices_S8x144x128_o6_0_0_S1x144x128 (e0 q k aw)) (vnode 0 slices_S19x144x128_o0_0_0_S1x144x128 v), mulf (pick7 5 slices_S7x144x128_o5_0_0_S1x144x128 (e1 q k aw)) (vnode 1 slices_S19x144x128_o1_0_0_S1x144x128 v), mulf (pick5 3 slices_S5x144x128_o3_0_0_S1x144x128 (e2 q k aw)) (vnode 2 slices_S19x144x128_o2_0_0_S1x144x128 v), mulf (pick4 2 slices_S4x144x128_o2_0_0_S1x144x128 (e3 q k aw)) (vnode 3 slices_S19x144x128_o3_0_0_S1x144x128 v), mulf (pick7 5 slices_S7x144x128_o5_0_0_S1x144x128 (e4 q k aw)) (vnode 4 slices_S19x144x128_o4_0_0_S1x144x128 v), mulf (pick5 3 slices_S5x144x128_o3_0_0_S1x144x128 (e5 q k aw)) (vnode 5 slices_S19x144x128_o5_0_0_S1x144x128 v), mulf (pick4 2 slices_S4x144x128_o2_0_0_S1x144x128 (e6 q k aw)) (vnode 6 slices_S19x144x128_o6_0_0_S1x144x128 v), mulf (pick9 7 slices_S9x144x128_o7_0_0_S1x144x128 (e7 q k aw)) (vnode 7 slices_S19x144x128_o7_0_0_S1x144x128 v), mulf (pick10 8 slices_S10x144x128_o8_0_0_S1x144x128 (e8 q k aw)) (vnode 8 slices_S19x144x128_o8_0_0_S1x144x128 v), mulf (pick7 5 slices_S7x144x128_o5_0_0_S1x144x128 (e9 q k aw)) (vnode 9 slices_S19x144x128_o9_0_0_S1x144x128 v), mulf (pick4 2 slices_S4x144x128_o2_0_0_S1x144x128 (e10 q k aw)) (vnode 10 slices_S19x144x128_o10_0_0_S1x144x128 v), mulf (pick8 6 slices_S8x144x128_o6_0_0_S1x144x128 (e11 q k aw)) (vnode 11 slices_S19x144x128_o11_0_0_S1x144x128 v), mulf (pick5 3 slices_S5x144x128_o3_0_0_S1x144x128 (e12 q k aw)) (vnode 12 slices_S19x144x128_o12_0_0_S1x144x128 v), mulf (pick4 2 slices_S4x144x128_o2_0_0_S1x144x128 (e13 q k aw)) (vnode 13 slices_S19x144x128_o13_0_0_S1x144x128 v), mulf (pick8 6 slices_S8x144x128_o6_0_0_S1x144x128 (e14 q k aw)) (vnode 14 slices_S19x144x128_o14_0_0_S1x144x128 v), mulf (pick5 3 slices_S5x144x128_o3_0_0_S1x144x128 (e15 q k aw)) (vnode 15 slices_S19x144x128_o15_0_0_S1x144x128 v), mulf (pick4 2 slices_S4x144x128_o2_0_0_S1x144x128 (e16 q k aw)) (vnode 16 slices_S19x144x128_o16_0_0_S1x144x128 v)]
def den18 : FVec Ideal S144x128 .f32 := vsum [pick8 7 slices_S8x144x128_o7_0_0_S1x144x128 (e0 q k aw), pick7 6 slices_S7x144x128_o6_0_0_S1x144x128 (e1 q k aw), pick5 4 slices_S5x144x128_o4_0_0_S1x144x128 (e2 q k aw), pick4 3 slices_S4x144x128_o3_0_0_S1x144x128 (e3 q k aw), pick7 6 slices_S7x144x128_o6_0_0_S1x144x128 (e4 q k aw), pick5 4 slices_S5x144x128_o4_0_0_S1x144x128 (e5 q k aw), pick4 3 slices_S4x144x128_o3_0_0_S1x144x128 (e6 q k aw), pick9 8 slices_S9x144x128_o8_0_0_S1x144x128 (e7 q k aw), pick10 9 slices_S10x144x128_o9_0_0_S1x144x128 (e8 q k aw), pick7 6 slices_S7x144x128_o6_0_0_S1x144x128 (e9 q k aw), pick4 3 slices_S4x144x128_o3_0_0_S1x144x128 (e10 q k aw), pick8 7 slices_S8x144x128_o7_0_0_S1x144x128 (e11 q k aw), pick5 4 slices_S5x144x128_o4_0_0_S1x144x128 (e12 q k aw), pick4 3 slices_S4x144x128_o3_0_0_S1x144x128 (e13 q k aw), pick8 7 slices_S8x144x128_o7_0_0_S1x144x128 (e14 q k aw), pick5 4 slices_S5x144x128_o4_0_0_S1x144x128 (e15 q k aw), pick4 3 slices_S4x144x128_o3_0_0_S1x144x128 (e16 q k aw)]
def acc18 : FVec Ideal S144x128 .f32 := vsum [mulf (pick8 7 slices_S8x144x128_o7_0_0_S1x144x128 (e0 q k aw)) (vnode 0 slices_S19x144x128_o0_0_0_S1x144x128 v), mulf (pick7 6 slices_S7x144x128_o6_0_0_S1x144x128 (e1 q k aw)) (vnode 1 slices_S19x144x128_o1_0_0_S1x144x128 v), mulf (pick5 4 slices_S5x144x128_o4_0_0_S1x144x128 (e2 q k aw)) (vnode 2 slices_S19x144x128_o2_0_0_S1x144x128 v), mulf (pick4 3 slices_S4x144x128_o3_0_0_S1x144x128 (e3 q k aw)) (vnode 3 slices_S19x144x128_o3_0_0_S1x144x128 v), mulf (pick7 6 slices_S7x144x128_o6_0_0_S1x144x128 (e4 q k aw)) (vnode 4 slices_S19x144x128_o4_0_0_S1x144x128 v), mulf (pick5 4 slices_S5x144x128_o4_0_0_S1x144x128 (e5 q k aw)) (vnode 5 slices_S19x144x128_o5_0_0_S1x144x128 v), mulf (pick4 3 slices_S4x144x128_o3_0_0_S1x144x128 (e6 q k aw)) (vnode 6 slices_S19x144x128_o6_0_0_S1x144x128 v), mulf (pick9 8 slices_S9x144x128_o8_0_0_S1x144x128 (e7 q k aw)) (vnode 7 slices_S19x144x128_o7_0_0_S1x144x128 v), mulf (pick10 9 slices_S10x144x128_o9_0_0_S1x144x128 (e8 q k aw)) (vnode 8 slices_S19x144x128_o8_0_0_S1x144x128 v), mulf (pick7 6 slices_S7x144x128_o6_0_0_S1x144x128 (e9 q k aw)) (vnode 9 slices_S19x144x128_o9_0_0_S1x144x128 v), mulf (pick4 3 slices_S4x144x128_o3_0_0_S1x144x128 (e10 q k aw)) (vnode 10 slices_S19x144x128_o10_0_0_S1x144x128 v), mulf (pick8 7 slices_S8x144x128_o7_0_0_S1x144x128 (e11 q k aw)) (vnode 11 slices_S19x144x128_o11_0_0_S1x144x128 v), mulf (pick5 4 slices_S5x144x128_o4_0_0_S1x144x128 (e12 q k aw)) (vnode 12 slices_S19x144x128_o12_0_0_S1x144x128 v), mulf (pick4 3 slices_S4x144x128_o3_0_0_S1x144x128 (e13 q k aw)) (vnode 13 slices_S19x144x128_o13_0_0_S1x144x128 v), mulf (pick8 7 slices_S8x144x128_o7_0_0_S1x144x128 (e14 q k aw)) (vnode 14 slices_S19x144x128_o14_0_0_S1x144x128 v), mulf (pick5 4 slices_S5x144x128_o4_0_0_S1x144x128 (e15 q k aw)) (vnode 15 slices_S19x144x128_o15_0_0_S1x144x128 v), mulf (pick4 3 slices_S4x144x128_o3_0_0_S1x144x128 (e16 q k aw)) (vnode 16 slices_S19x144x128_o16_0_0_S1x144x128 v)]

def denAll : FVec Ideal S19x144x128 .f32 := concatenate S19x144x128 0 [⟨S1x144x128, box (den0 q k aw)⟩, ⟨S1x144x128, box (den1 q k aw)⟩, ⟨S1x144x128, box (den2 q k aw)⟩, ⟨S1x144x128, box (den3 q k aw)⟩, ⟨S1x144x128, box (den4 q k aw)⟩, ⟨S1x144x128, box (den5 q k aw)⟩, ⟨S1x144x128, box (den6 q k aw)⟩, ⟨S1x144x128, box (den7 q k aw)⟩, ⟨S1x144x128, box (den8 q k aw)⟩, ⟨S1x144x128, box (den9 q k aw)⟩, ⟨S1x144x128, box (den10 q k aw)⟩, ⟨S1x144x128, box (den11 q k aw)⟩, ⟨S1x144x128, box (den12 q k aw)⟩, ⟨S1x144x128, box (den13 q k aw)⟩, ⟨S1x144x128, box (den14 q k aw)⟩, ⟨S1x144x128, box (den15 q k aw)⟩, ⟨S1x144x128, box (den16 q k aw)⟩, ⟨S1x144x128, box (den17 q k aw)⟩, ⟨S1x144x128, box (den18 q k aw)⟩] concatenates_S1x144x128_S1x144x128_S1x144x128_S1x144x128_S1x144x128_S1x144x128_S1x144x128_S1x144x128_S1x144x128_S1x144x128_S1x144x128_S1x144x128_S1x144x128_S1x144x128_S1x144x128_S1x144x128_S1x144x128_S1x144x128_S1x144x128_S19x144x128_d0
def accAll : FVec Ideal S19x144x128 .f32 := concatenate S19x144x128 0 [⟨S1x144x128, box (acc0 q k aw v)⟩, ⟨S1x144x128, box (acc1 q k aw v)⟩, ⟨S1x144x128, box (acc2 q k aw v)⟩, ⟨S1x144x128, box (acc3 q k aw v)⟩, ⟨S1x144x128, box (acc4 q k aw v)⟩, ⟨S1x144x128, box (acc5 q k aw v)⟩, ⟨S1x144x128, box (acc6 q k aw v)⟩, ⟨S1x144x128, box (acc7 q k aw v)⟩, ⟨S1x144x128, box (acc8 q k aw v)⟩, ⟨S1x144x128, box (acc9 q k aw v)⟩, ⟨S1x144x128, box (acc10 q k aw v)⟩, ⟨S1x144x128, box (acc11 q k aw v)⟩, ⟨S1x144x128, box (acc12 q k aw v)⟩, ⟨S1x144x128, box (acc13 q k aw v)⟩, ⟨S1x144x128, box (acc14 q k aw v)⟩, ⟨S1x144x128, box (acc15 q k aw v)⟩, ⟨S1x144x128, box (acc16 q k aw v)⟩, ⟨S1x144x128, box (acc17 q k aw v)⟩, ⟨S1x144x128, box (acc18 q k aw v)⟩] concatenates_S1x144x128_S1x144x128_S1x144x128_S1x144x128_S1x144x128_S1x144x128_S1x144x128_S1x144x128_S1x144x128_S1x144x128_S1x144x128_S1x144x128_S1x144x128_S1x144x128_S1x144x128_S1x144x128_S1x144x128_S1x144x128_S1x144x128_S19x144x128_d0

end

/-- The first linear map and the packed query, key and value projections. -/
def lin (h : FVec Ideal S2736x256 .f32) (w1 : FVec Ideal S256x128 .f32) (b1 : FVec Ideal S1x128 .f32) (wqkv : FVec Ideal S128x768 .f32) : FVec Ideal S2736x768 .f32 :=
  matmul dot_S2736x128_S128x768_S2736x768_1_0_0_1_n_n none
    (addf (matmul dot_S2736x256_S256x128_S2736x128_1_0_0_1_n_n none h w1 (constant S2736x128 .f32 0x00000000#32)) (broadcastTo S2736x128 b1 broadcasts_S1x128_S2736x128))
    wqkv (constant S2736x768 .f32 0x00000000#32)

def qOf (p : FVec Ideal S2736x768 .f32) : FVec Ideal S19x144x256 .f32 :=
  shapeCast S19x144x256 (extractStridedSlice S2736x256 ![0, 0] p slices_S2736x768_o0_0_S2736x256) shapeCasts_S2736x256_S19x144x256
def kOf (p : FVec Ideal S2736x768 .f32) : FVec Ideal S19x144x256 .f32 :=
  shapeCast S19x144x256 (extractStridedSlice S2736x256 ![0, 256] p slices_S2736x768_o0_256_S2736x256) shapeCasts_S2736x256_S19x144x256
def v1Of (p : FVec Ideal S2736x768 .f32) : FVec Ideal S2736x128 .f32 :=
  extractStridedSlice S2736x128 ![0, 512] p slices_S2736x768_o0_512_S2736x128
def v2Of (p : FVec Ideal S2736x768 .f32) : FVec Ideal S19x144x128 .f32 :=
  shapeCast S19x144x128 (extractStridedSlice S2736x128 ![0, 640] p slices_S2736x768_o0_640_S2736x128) shapeCasts_S2736x128_S19x144x128

/-- The attention and the second linear map. -/
def att (q k : FVec Ideal S19x144x256 .f32) (v1 : FVec Ideal S2736x128 .f32) (v2 : FVec Ideal S19x144x128 .f32)
    (aw : FVec Ideal S256x128 .f32) (w2 : FVec Ideal S128x256 .f32) (b2 : FVec Ideal S1x256 .f32) : FVec Ideal S2736x256 .f32 :=
  addf (matmul dot_S2736x128_S128x256_S2736x256_1_0_0_1_n_n none
    (addf v1 (divf (shapeCast S2736x128 (accAll q k aw v2) shapeCasts_S19x144x128_S2736x128)
      (addf (shapeCast S2736x128 (denAll q k aw) shapeCasts_S19x144x128_S2736x128) (broadcast S2736x128 (Scalar.ofBits (F := Ideal) .f32 0x2EDBE6FF#32)))))
    w2 (constant S2736x256 .f32 0x00000000#32)) (broadcastTo S2736x256 b2 broadcasts_S1x256_S2736x256)

/-- One graph layer. -/
def gconv (h : FVec Ideal S2736x256 .f32) (w1 : FVec Ideal S256x128 .f32) (b1 : FVec Ideal S1x128 .f32) (wqkv : FVec Ideal S128x768 .f32)
    (aw : FVec Ideal S256x128 .f32) (w2 : FVec Ideal S128x256 .f32) (b2 : FVec Ideal S1x256 .f32) : FVec Ideal S2736x256 .f32 :=
  att (qOf (lin h w1 b1 wqkv)) (kOf (lin h w1 b1 wqkv)) (v1Of (lin h w1 b1 wqkv)) (v2Of (lin h w1 b1 wqkv)) aw w2 b2

/-- The rows of the block by node, with a zero node and the mean node appended. -/
def prep (x : FVec Ideal S16x9x17x256 .f32) : FVec Ideal S2736x256 .f32 :=
  have t := transpose S17x144x256 [1, 0, 2] (shapeCast S144x17x256 x shapeCasts_S16x9x17x256_S144x17x256) transposes_S144x17x256_p1_0_2_S17x144x256
  shapeCast S2736x256 (concatenate S19x144x256 0 [⟨S17x144x256, t⟩,
    ⟨S1x144x256, broadcast S1x144x256 (Scalar.ofBits (F := Ideal) .f32 0x00000000#32)⟩,
    ⟨S1x144x256, divf (shapeCast S1x144x256 (multiReduction .add [0] S144x256 t 0x00000000#32 reduces_S17x144x256_S144x256 (.inl rfl) rfl) shapeCasts_S144x256_S1x144x256)
      (broadcast S1x144x256 (Scalar.ofBits (F := Ideal) .f32 0x41880000#32))⟩] concatenates_S17x144x256_S1x144x256_S1x144x256_S19x144x256_d0)
    shapeCasts_S19x144x256_S2736x256

/-- A row's mean. -/
def mean (h : FVec Ideal S2736x256 .f32) : FVec Ideal S2736x1 .f32 :=
  divf (shapeCast S2736x1 (multiReduction .add [1] S2736 h 0x00000000#32 reduces_S2736x256_S2736 (.inl rfl) rfl) shapeCasts_S2736_S2736x1)
    (broadcast S2736x1 (Scalar.ofBits (F := Ideal) .f32 0x43800000#32))

/-- The layer norm. -/
def lnorm (h : FVec Ideal S2736x256 .f32) (g b : FVec Ideal S1x256 .f32) : FVec Ideal S2736x256 .f32 :=
  have d := subf h (broadcastTo S2736x256 (mean h) broadcasts_S2736x1_S2736x256)
  addf (mulf (mulf d (broadcastTo S2736x256 (rsqrt (addf (mean (mulf d d)) (broadcast S2736x1 (Scalar.ofBits (F := Ideal) .f32 0x3727C5AC#32)))) broadcasts_S2736x1_S2736x256))
    (broadcastTo S2736x256 g broadcasts_S1x256_S2736x256)) (broadcastTo S2736x256 b broadcasts_S1x256_S2736x256)

/-- The block's result from the last layer's rows: the first 17 nodes, back in the block's order. -/
def fin (h : FVec Ideal S2736x256 .f32) : FVec Ideal S16x9x17x256 .f32 :=
  shapeCast S16x9x17x256 (transpose S144x17x256 [1, 0, 2] (extractStridedSlice S17x144x256 ![0, 0, 0]
    (shapeCast S19x144x256 h shapeCasts_S2736x256_S19x144x256) slices_S19x144x256_o0_0_0_S17x144x256) transposes_S17x144x256_p1_0_2_S144x17x256)
    shapeCasts_S144x17x256_S16x9x17x256

/-- The whole body at one grid point. -/
def fused (x0 : FVec Ideal S16x9x17x256 .f32) (x1 : FVec Ideal S256x128 .f32) (x2 : FVec Ideal S1x128 .f32) (x3 : FVec Ideal S128x768 .f32)
    (x4 : FVec Ideal S256x128 .f32) (x5 : FVec Ideal S128x256 .f32) (x6 x7 x8 : FVec Ideal S1x256 .f32)
    (x9 : FVec Ideal S256x128 .f32) (x10 : FVec Ideal S1x128 .f32) (x11 : FVec Ideal S128x768 .f32)
    (x12 : FVec Ideal S256x128 .f32) (x13 : FVec Ideal S128x256 .f32) (x14 : FVec Ideal S1x256 .f32) : FVec Ideal S16x9x17x256 .f32 :=
  fin (gconv (lnorm (gconv (prep x0) x1 x2 x3 x4 x5 x6) x7 x8) x9 x10 x11 x12 x13 x14)

end Cert.KernelIdeal.Model
-- ==== Proof.Spec.lean ====
/- One head's attention over the 19 nodes at one position, as extended reals: the scores' maximum, the
   weights, and the two orders in which the weighted mean is taken. -/
module

public import Idealize.ShloMosaic.PureOps.Ideal

@[expose] public section

noncomputable section

namespace Cert.Row

open Idealize.ShloMosaic

/-- The nodes with an edge into each node. -/
def preds : Fin 19 → List (Fin 19) := ![[1, 2, 4, 5, 7, 8, 17, 18], [0, 2, 3, 4, 7, 17, 18], [0, 1, 3, 17, 18], [1, 2, 17, 18], [0, 1, 5, 6, 7, 17, 18], [0, 4, 6, 17, 18], [4, 5, 17, 18], [0, 1, 4, 8, 9, 11, 14, 17, 18], [0, 7, 9, 10, 11, 12, 14, 15, 17, 18], [7, 8, 10, 11, 14, 17, 18], [8, 9, 17, 18], [7, 8, 9, 12, 13, 14, 17, 18], [8, 11, 13, 17, 18], [11, 12, 17, 18], [7, 8, 9, 11, 15, 16, 17, 18], [8, 14, 16, 17, 18], [14, 15, 17, 18], [0, 1, 2, 3, 4, 5, 6, 7, 8, 9, 10, 11, 12, 13, 14, 15, 16], [0, 1, 2, 3, 4, 5, 6, 7, 8, 9, 10, 11, 12, 13, 14, 15, 16]]

/-- Whether there is an edge from `i` to `j`. -/
abbrev adj (i j : Fin 19) : Prop := i ∈ preds j

/-- The largest score over the edges. -/
def top (s : Fin 19 → Fin 19 → EReal) : EReal :=
  Finset.univ.sup fun p : Fin 19 × Fin 19 => if adj p.1 p.2 then s p.1 p.2 else ⊥

theorem top_le_iff (s : Fin 19 → Fin 19 → EReal) (b : EReal) : top s ≤ b ↔ ∀ j i, i ∈ preds j → s i j ≤ b := by
  unfold top
  rw [Finset.sup_le_iff]
  constructor
  · intro h j i hij
    have := h (i, j) (Finset.mem_univ _)
    rwa [if_pos hij] at this
  · intro h p _
    split
    · next hp => exact h _ _ hp
    · exact bot_le

/-- An edge's weight. -/
def z (s : Fin 19 → Fin 19 → EReal) (i j : Fin 19) : EReal := Ideal.exp (s i j - top s)

/-- The sum of the weights of the edges out of a node. -/
def den (s : Fin 19 → Fin 19 → EReal) (i : Fin 19) : EReal := ∑ j, if adj i j then z s i j else 0

/-- The weighted mean: the weighted sum divided by the sum of the weights. -/
def outK (s : Fin 19 → Fin 19 → EReal) (ε : EReal) (v : Fin 19 → EReal) (i : Fin 19) : EReal :=
  Ideal.div (∑ j, if adj i j then z s i j * v j else 0) (den s i + ε)

/-- The weighted mean: the sum weighted by the normalised weights. -/
def outR (s : Fin 19 → Fin 19 → EReal) (ε : EReal) (v : Fin 19 → EReal) (i : Fin 19) : EReal :=
  ∑ j, (if adj i j then Ideal.div (z s i j) (ε + den s i) else 0) * v j

theorem exp_mem {x : EReal} (h : x ≤ 0) : ∃ r : ℝ, 0 ≤ r ∧ Ideal.exp x = (r : EReal) := by
  induction x with
  | bot => exact ⟨0, le_refl _, rfl⟩
  | top => exact absurd h (by simp)
  | coe r => exact ⟨Real.exp r, (Real.exp_pos r).le, rfl⟩

theorem sub_nonpos_of_le {a b : EReal} (h : a ≤ b) : a - b ≤ 0 := by
  induction b with
  | bot => rw [le_bot_iff.1 h]; decide
  | top => rw [EReal.sub_top]; exact bot_le
  | coe r => exact EReal.sub_nonpos.2 h

theorem z_real (s : Fin 19 → Fin 19 → EReal) {i j : Fin 19} (h : adj i j) : ∃ r : ℝ, 0 ≤ r ∧ z s i j = (r : EReal) :=
  exp_mem (sub_nonpos_of_le ((top_le_iff s (top s)).1 le_rfl j i h))

theorem sum_real {n : ℕ} (f : Fin n → EReal) (h : ∀ j, ∃ r : ℝ, 0 ≤ r ∧ f j = (r : EReal)) : ∃ r : ℝ, 0 ≤ r ∧ ∑ j, f j = (r : EReal) := by
  choose g hg hf using h
  refine ⟨∑ j, g j, Finset.sum_nonneg fun j _ => hg j, ?_⟩
  rw [Finset.sum_congr rfl fun j _ => hf j]
  induction n with
  | zero => simp
  | succ n ih =>
    rw [Fin.sum_univ_succ, Fin.sum_univ_succ, ih (fun j => f j.succ) (fun j => g j.succ) (fun j => hg _) (fun j => hf _), EReal.coe_add]

theorem den_real (s : Fin 19 → Fin 19 → EReal) (i : Fin 19) : ∃ r : ℝ, 0 ≤ r ∧ den s i = (r : EReal) :=
  sum_real _ fun j => by
    by_cases h : adj i j
    · rw [if_pos h]; exact z_real s h
    · rw [if_neg h]; exact ⟨0, le_rfl, rfl⟩

theorem sum_mul_nonneg {n : ℕ} (f : Fin n → EReal) (c : EReal) (h0 : 0 ≤ c) (hT : c ≠ ⊤) : (∑ j, f j) * c = ∑ j, f j * c := by
  induction n with
  | zero => simp
  | succ n ih => rw [Fin.sum_univ_succ, Fin.sum_univ_succ, EReal.right_distrib_of_nonneg_of_ne_top h0 hT, ih]

/-- The two orders agree. -/
theorem outK_eq_outR (s : Fin 19 → Fin 19 → EReal) (ε : EReal) (hε : ∃ r : ℝ, 0 < r ∧ ε = (r : EReal)) (v : Fin 19 → EReal) (i : Fin 19) :
    outK s ε v i = outR s ε v i := by
  obtain ⟨e, he, rfl⟩ := hε
  obtain ⟨d, hd, hden⟩ := den_real s i
  have hpos : 0 < d + e := by linarith
  have hne : ((d + e : ℝ) : EReal) ≠ 0 := by
    intro h; exact hpos.ne' (EReal.coe_eq_zero.1 h)
  unfold outK outR
  rw [hden, add_comm (e : EReal) d, ← EReal.coe_add]
  simp only [Ideal.div, if_neg hne]
  rw [← EReal.coe_inv, sum_mul_nonneg _ _ (EReal.coe_nonneg.2 (inv_nonneg.2 hpos.le)) (EReal.coe_ne_top _)]
  refine Finset.sum_congr rfl fun j _ => ?_
  split
  · rw [mul_assoc, mul_comm (v j), ← mul_assoc]
  · simp

/-- Multiplying by the reciprocal root is dividing by the root, at a positive argument. -/
theorem mul_rsqrt {x y : EReal} (hy : 0 < y) : x * Ideal.rsqrt y = Ideal.div x (Ideal.sqrt y) := by
  induction y with
  | bot => exact absurd hy (by simp)
  | top =>
    have e1 : Ideal.rsqrt ⊤ = 0 := rfl
    have e2 : Ideal.sqrt ⊤ = ⊤ := rfl
    rw [e1, e2, Ideal.div, if_neg EReal.top_ne_zero, EReal.inv_top]
  | coe r =>
    have hr : 0 < r := EReal.coe_pos.1 hy
    have hs : ((Real.sqrt r : ℝ) : EReal) ≠ 0 := by
      intro h; exact (Real.sqrt_pos.2 hr).ne' (EReal.coe_eq_zero.1 h)
    have e1 : Ideal.rsqrt (r : EReal) = if r < 0 then ⊥ else if r = 0 then ⊤ else (((Real.sqrt r)⁻¹ : ℝ) : EReal) := rfl
    have e2 : Ideal.sqrt (r : EReal) = if r < 0 then ⊥ else ((Real.sqrt r : ℝ) : EReal) := rfl
    rw [e1, e2, if_neg hr.not_gt, if_neg hr.ne', if_neg hr.not_gt, Ideal.div, if_neg hs, EReal.coe_inv]

theorem mul_self_nonneg' (x : EReal) : 0 ≤ x * x := by
  induction x with
  | bot => simp
  | top => simp
  | coe r => rw [← EReal.coe_mul]; exact EReal.coe_nonneg.2 (mul_self_nonneg r)

end Cert.Row
-- ==== Proof.Scores.lean ====
/- The scores, the weights and their sums of the fused kernel's body, read at an index. -/
module

public import proofs.«01_k».proof.Proof.Model
public import proofs.«01_k».proof.Proof.Spec
public import Idealize.ShloMosaic.Lib.Pointwise

@[expose] public section

set_option maxRecDepth 16384

noncomputable section

namespace Cert.KernelIdeal.Model

open Idealize.ShloMosaic Idealize.SL.Sem Cert.KernelIdeal Cert.KernelIdeal.Gen Cert.Row

/-- A softplus, as the kernel writes it. -/
def spK (t : EReal) : EReal := max t 0 + Ideal.log1p (Ideal.exp (0 - FloatOps.absf (F := Ideal) (φ := .f32) t))

/-- The score of the edge from `i` to `j` at row `r` and lane `l`. -/
def SK (q k : FVec Ideal S19x144x256 .f32) (aw : FVec Ideal S256x128 .f32) (r : Fin 144) (l : Fin 128) (i j : Fin 19) : EReal :=
  ∑ f : Fin 256, spK (q (ix3 i r f) + k (ix3 j r f)) * aw (ix2 f l)

theorem ofBits_neg_inf : Ideal.ofBits .f32 0xFF800000#32 = ⊥ := by simp [Ideal.ofBits, Ideal.ieee]

theorem score4_at (qc : FVec Ideal S4x144x256 .f32) (kj : FVec Ideal S1x144x256 .f32) (aw : FVec Ideal S256x128 .f32) (x : Fin 4) (r : Fin 144) (l : Fin 128) :
    score4 qc kj aw (ix3 x r l) = ∑ f : Fin 256, spK (qc (ix3 x r f) + kj (ix3 0 r f)) * aw (ix2 f l) := by
  unfold score4 spK
  pointwise

theorem expo4_at (sg : FVec Ideal S4x144x128 .f32) (m : FVec Ideal S144x128 .f32) (x : Fin 4) (r : Fin 144) (l : Fin 128) :
    expo4 sg m (ix3 x r l) = Ideal.exp (sg (ix3 x r l) - m (ix2 r l)) := by
  unfold expo4
  pointwise

theorem maxi4_le (sg : FVec Ideal S4x144x128 .f32) (m : FVec Ideal S144x128 .f32) (r : Fin 144) (l : Fin 128) (b : EReal) :
    maxi4 sg m (ix2 r l) ≤ b ↔ m (ix2 r l) ≤ b ∧ ∀ x : Fin 4, sg (ix3 x r l) ≤ b := by
  have h : maxi4 sg m (ix2 r l) = max (m (ix2 r l)) (Finset.fold max (Ideal.ofBits FTy.f32 0xFF800000#32) (fun x : Fin 4 => sg (ix3 x r l)) Finset.univ) := by
    unfold maxi4
    pointwise
  rw [h, max_le_iff, Finset.fold_max_le, ofBits_neg_inf]
  simp

theorem score5_at (qc : FVec Ideal S5x144x256 .f32) (kj : FVec Ideal S1x144x256 .f32) (aw : FVec Ideal S256x128 .f32) (x : Fin 5) (r : Fin 144) (l : Fin 128) :
    score5 qc kj aw (ix3 x r l) = ∑ f : Fin 256, spK (qc (ix3 x r f) + kj (ix3 0 r f)) * aw (ix2 f l) := by
  unfold score5 spK
  pointwise

theorem expo5_at (sg : FVec Ideal S5x144x128 .f32) (m : FVec Ideal S144x128 .f32) (x : Fin 5) (r : Fin 144) (l : Fin 128) :
    expo5 sg m (ix3 x r l) = Ideal.exp (sg (ix3 x r l) - m (ix2 r l)) := by
  unfold expo5
  pointwise

theorem maxi5_le (sg : FVec Ideal S5x144x128 .f32) (m : FVec Ideal S144x128 .f32) (r : Fin 144) (l : Fin 128) (b : EReal) :
    maxi5 sg m (ix2 r l) ≤ b ↔ m (ix2 r l) ≤ b ∧ ∀ x : Fin 5, sg (ix3 x r l) ≤ b := by
  have h : maxi5 sg m (ix2 r l) = max (m (ix2 r l)) (Finset.fold max (Ideal.ofBits FTy.f32 0xFF800000#32) (fun x : Fin 5 => sg (ix3 x r l)) Finset.univ) := by
    unfold maxi5
    pointwise
  rw [h, max_le_iff, Finset.fold_max_le, ofBits_neg_inf]
  simp

theorem score7_at (qc : FVec Ideal S7x144x256 .f32) (kj : FVec Ideal S1x144x256 .f32) (aw : FVec Ideal S256x128 .f32) (x : Fin 7) (r : Fin 144) (l : Fin 128) :
    score7 qc kj aw (ix3 x r l) = ∑ f : Fin 256, spK (qc (ix3 x r f) + kj (ix3 0 r f)) * aw (ix2 f l) := by
  unfold score7 spK
  pointwise

theorem expo7_at (sg : FVec Ideal S7x144x128 .f32) (m : FVec Ideal S144x128 .f32) (x : Fin 7) (r : Fin 144) (l : Fin 128) :
    expo7 sg m (ix3 x r l) = Ideal.exp (sg (ix3 x r l) - m (ix2 r l)) := by
  unfold expo7
  pointwise

theorem maxi7_le (sg : FVec Ideal S7x144x128 .f32) (m : FVec Ideal S144x128 .f32) (r : Fin 144) (l : Fin 128) (b : EReal) :
    maxi7 sg m (ix2 r l) ≤ b ↔ m (ix2 r l) ≤ b ∧ ∀ x : Fin 7, sg (ix3 x r l) ≤ b := by
  have h : maxi7 sg m (ix2 r l) = max (m (ix2 r l)) (Finset.fold max (Ideal.ofBits FTy.f32 0xFF800000#32) (fun x : Fin 7 => sg (ix3 x r l)) Finset.univ) := by
    unfold maxi7
    pointwise
  rw [h, max_le_iff, Finset.fold_max_le, ofBits_neg_inf]
  simp

theorem score8_at (qc : FVec Ideal S8x144x256 .f32) (kj : FVec Ideal S1x144x256 .f32) (aw : FVec Ideal S256x128 .f32) (x : Fin 8) (r : Fin 144) (l : Fin 128) :
    score8 qc kj aw (ix3 x r l) = ∑ f : Fin 256, spK (qc (ix3 x r f) + kj (ix3 0 r f)) * aw (ix2 f l) := by
  unfold score8 spK
  pointwise

theorem expo8_at (sg : FVec Ideal S8x144x128 .f32) (m : FVec Ideal S144x128 .f32) (x : Fin 8) (r : Fin 144) (l : Fin 128) :
    expo8 sg m (ix3 x r l) = Ideal.exp (sg (ix3 x r l) - m (ix2 r l)) := by
  unfold expo8
  pointwise

theorem maxi8_le (sg : FVec Ideal S8x144x128 .f32) (m : FVec Ideal S144x128 .f32) (r : Fin 144) (l : Fin 128) (b : EReal) :
    maxi8 sg m (ix2 r l) ≤ b ↔ m (ix2 r l) ≤ b ∧ ∀ x : Fin 8, sg (ix3 x r l) ≤ b := by
  have h : maxi8 sg m (ix2 r l) = max (m (ix2 r l)) (Finset.fold max (Ideal.ofBits FTy.f32 0xFF800000#32) (fun x : Fin 8 => sg (ix3 x r l)) Finset.univ) := by
    unfold maxi8
    pointwise
  rw [h, max_le_iff, Finset.fold_max_le, ofBits_neg_inf]
  simp

theorem score9_at (qc : FVec Ideal S9x144x256 .f32) (kj : FVec Ideal S1x144x256 .f32) (aw : FVec Ideal S256x128 .f32) (x : Fin 9) (r : Fin 144) (l : Fin 128) :
    score9 qc kj aw (ix3 x r l) = ∑ f : Fin 256, spK (qc (ix3 x r f) + kj (ix3 0 r f)) * aw (ix2 f l) := by
  unfold score9 spK
  pointwise

theorem expo9_at (sg : FVec Ideal S9x144x128 .f32) (m : FVec Ideal S144x128 .f32) (x : Fin 9) (r : Fin 144) (l : Fin 128) :
    expo9 sg m (ix3 x r l) = Ideal.exp (sg (ix3 x r l) - m (ix2 r l)) := by
  unfold expo9
  pointwise

theorem maxi9_le (sg : FVec Ideal S9x144x128 .f32) (m : FVec Ideal S144x128 .f32) (r : Fin 144) (l : Fin 128) (b : EReal) :
    maxi9 sg m (ix2 r l) ≤ b ↔ m (ix2 r l) ≤ b ∧ ∀ x : Fin 9, sg (ix3 x r l) ≤ b := by
  have h : maxi9 sg m (ix2 r l) = max (m (ix2 r l)) (Finset.fold max (Ideal.ofBits FTy.f32 0xFF800000#32) (fun x : Fin 9 => sg (ix3 x r l)) Finset.univ) := by
    unfold maxi9
    pointwise
  rw [h, max_le_iff, Finset.fold_max_le, ofBits_neg_inf]
  simp

theorem score10_at (qc : FVec Ideal S10x144x256 .f32) (kj : FVec Ideal S1x144x256 .f32) (aw : FVec Ideal S256x128 .f32) (x : Fin 10) (r : Fin 144) (l : Fin 128) :
    score10 qc kj aw (ix3 x r l) = ∑ f : Fin 256, spK (qc (ix3 x r f) + kj (ix3 0 r f)) * aw (ix2 f l) := by
  unfold score10 spK
  pointwise

theorem expo10_at (sg : FVec Ideal S10x144x128 .f32) (m : FVec Ideal S144x128 .f32) (x : Fin 10) (r : Fin 144) (l : Fin 128) :
    expo10 sg m (ix3 x r l) = Ideal.exp (sg (ix3 x r l) - m (ix2 r l)) := by
  unfold expo10
  pointwise

theorem maxi10_le (sg : FVec Ideal S10x144x128 .f32) (m : FVec Ideal S144x128 .f32) (r : Fin 144) (l : Fin 128) (b : EReal) :
    maxi10 sg m (ix2 r l) ≤ b ↔ m (ix2 r l) ≤ b ∧ ∀ x : Fin 10, sg (ix3 x r l) ≤ b := by
  have h : maxi10 sg m (ix2 r l) = max (m (ix2 r l)) (Finset.fold max (Ideal.ofBits FTy.f32 0xFF800000#32) (fun x : Fin 10 => sg (ix3 x r l)) Finset.univ) := by
    unfold maxi10
    pointwise
  rw [h, max_le_iff, Finset.fold_max_le, ofBits_neg_inf]
  simp

theorem score17_at (qc : FVec Ideal S17x144x256 .f32) (kj : FVec Ideal S1x144x256 .f32) (aw : FVec Ideal S256x128 .f32) (x : Fin 17) (r : Fin 144) (l : Fin 128) :
    score17 qc kj aw (ix3 x r l) = ∑ f : Fin 256, spK (qc (ix3 x r f) + kj (ix3 0 r f)) * aw (ix2 f l) := by
  unfold score17 spK
  pointwise

theorem expo17_at (sg : FVec Ideal S17x144x128 .f32) (m : FVec Ideal S144x128 .f32) (x : Fin 17) (r : Fin 144) (l : Fin 128) :
    expo17 sg m (ix3 x r l) = Ideal.exp (sg (ix3 x r l) - m (ix2 r l)) := by
  unfold expo17
  pointwise

theorem maxi17_le (sg : FVec Ideal S17x144x128 .f32) (m : FVec Ideal S144x128 .f32) (r : Fin 144) (l : Fin 128) (b : EReal) :
    maxi17 sg m (ix2 r l) ≤ b ↔ m (ix2 r l) ≤ b ∧ ∀ x : Fin 17, sg (ix3 x r l) ≤ b := by
  have h : maxi17 sg m (ix2 r l) = max (m (ix2 r l)) (Finset.fold max (Ideal.ofBits FTy.f32 0xFF800000#32) (fun x : Fin 17 => sg (ix3 x r l)) Finset.univ) := by
    unfold maxi17
    pointwise
  rw [h, max_le_iff, Finset.fold_max_le, ofBits_neg_inf]
  simp

theorem node_at (a : ℕ) (h : S19x144x256.Slices ![a, 0, 0] S1x144x256) (ha : a < 19) (q : FVec Ideal S19x144x256 .f32) (r : Fin 144) (f : Fin 256) :
    node a h q (ix3 0 r f) = q (ix3 ⟨a, ha⟩ r f) := by
  unfold node
  pointwise

variable (q k : FVec Ideal S19x144x256 .f32) (aw : FVec Ideal S256x128 .f32) (v : FVec Ideal S19x144x128 .f32)

/-- The nodes with an edge into node 0, in order. -/
def P0 : Fin 8 → Fin 19 := ![1, 2, 4, 5, 7, 8, 17, 18]

theorem sg0_at (x : Fin 8) (r : Fin 144) (l : Fin 128) : sg0 q k aw (ix3 x r l) = SK q k aw r l (P0 x) 0 := by
  unfold sg0 SK
  rw [score8_at]
  refine Finset.sum_congr rfl fun f _ => ?_
  rw [node_at 0 _ (by decide)]
  unfold node
  pointwise
  fin_cases x <;> rfl

/-- The nodes with an edge into node 1, in order. -/
def P1 : Fin 7 → Fin 19 := ![0, 2, 3, 4, 7, 17, 18]

theorem sg1_at (x : Fin 7) (r : Fin 144) (l : Fin 128) : sg1 q k aw (ix3 x r l) = SK q k aw r l (P1 x) 1 := by
  unfold sg1 SK
  rw [score7_at]
  refine Finset.sum_congr rfl fun f _ => ?_
  rw [node_at 1 _ (by decide)]
  unfold node
  pointwise
  fin_cases x <;> rfl

/-- The nodes with an edge into node 2, in order. -/
def P2 : Fin 5 → Fin 19 := ![0, 1, 3, 17, 18]

theorem sg2_at (x : Fin 5) (r : Fin 144) (l : Fin 128) : sg2 q k aw (ix3 x r l) = SK q k aw r l (P2 x) 2 := by
  unfold sg2 SK
  rw [score5_at]
  refine Finset.sum_congr rfl fun f _ => ?_
  rw [node_at 2 _ (by decide)]
  unfold node
  pointwise
  fin_cases x <;> rfl

/-- The nodes with an edge into node 3, in order. -/
def P3 : Fin 4 → Fin 19 := ![1, 2, 17, 18]

theorem sg3_at (x : Fin 4) (r : Fin 144) (l : Fin 128) : sg3 q k aw (ix3 x r l) = SK q k aw r l (P3 x) 3 := by
  unfold sg3 SK
  rw [score4_at]
  refine Finset.sum_congr rfl fun f _ => ?_
  rw [node_at 3 _ (by decide)]
  unfold node
  pointwise
  fin_cases x <;> rfl

/-- The nodes with an edge into node 4, in order. -/
def P4 : Fin 7 → Fin 19 := ![0, 1, 5, 6, 7, 17, 18]

theorem sg4_at (x : Fin 7) (r : Fin 144) (l : Fin 128) : sg4 q k aw (ix3 x r l) = SK q k aw r l (P4 x) 4 := by
  unfold sg4 SK
  rw [score7_at]
  refine Finset.sum_congr rfl fun f _ => ?_
  rw [node_at 4 _ (by decide)]
  unfold node
  pointwise
  fin_cases x <;> rfl

/-- The nodes with an edge into node 5, in order. -/
def P5 : Fin 5 → Fin 19 := ![0, 4, 6, 17, 18]

theorem sg5_at (x : Fin 5) (r : Fin 144) (l : Fin 128) : sg5 q k aw (ix3 x r l) = SK q k aw r l (P5 x) 5 := by
  unfold sg5 SK
  rw [score5_at]
  refine Finset.sum_congr rfl fun f _ => ?_
  rw [node_at 5 _ (by decide)]
  unfold node
  pointwise
  fin_cases x <;> rfl

/-- The nodes with an edge into node 6, in order. -/
def P6 : Fin 4 → Fin 19 := ![4, 5, 17, 18]

theorem sg6_at (x : Fin 4) (r : Fin 144) (l : Fin 128) : sg6 q k aw (ix3 x r l) = SK q k aw r l (P6 x) 6 := by
  unfold sg6 SK
  rw [score4_at]
  refine Finset.sum_congr rfl fun f _ => ?_
  rw [node_at 6 _ (by decide)]
  unfold node
  pointwise
  fin_cases x <;> rfl

/-- The nodes with an edge into node 7, in order. -/
def P7 : Fin 9 → Fin 19 := ![0, 1, 4, 8, 9, 11, 14, 17, 18]

theorem sg7_at (x : Fin 9) (r : Fin 144) (l : Fin 128) : sg7 q k aw (ix3 x r l) = SK q k aw r l (P7 x) 7 := by
  unfold sg7 SK
  rw [score9_at]
  refine Finset.sum_congr rfl fun f _ => ?_
  rw [node_at 7 _ (by decide)]
  unfold node
  pointwise
  fin_cases x <;> rfl

/-- The nodes with an edge into node 8, in order. -/
def P8 : Fin 10 → Fin 19 := ![0, 7, 9, 10, 11, 12, 14, 15, 17, 18]

theorem sg8_at (x : Fin 10) (r : Fin 144) (l : Fin 128) : sg8 q k aw (ix3 x r l) = SK q k aw r l (P8 x) 8 := by
  unfold sg8 SK
  rw [score10_at]
  refine Finset.sum_congr rfl fun f _ => ?_
  rw [node_at 8 _ (by decide)]
  unfold node
  pointwise
  fin_cases x <;> rfl

/-- The nodes with an edge into node 9, in order. -/
def P9 : Fin 7 → Fin 19 := ![7, 8, 10, 11, 14, 17, 18]

theorem sg9_at (x : Fin 7) (r : Fin 144) (l : Fin 128) : sg9 q k aw (ix3 x r l) = SK q k aw r l (P9 x) 9 := by
  unfold sg9 SK
  rw [score7_at]
  refine Finset.sum_congr rfl fun f _ => ?_
  rw [node_at 9 _ (by decide)]
  unfold node
  pointwise
  fin_cases x <;> rfl

/-- The nodes with an edge into node 10, in order. -/
def P10 : Fin 4 → Fin 19 := ![8, 9, 17, 18]

theorem sg10_at (x : Fin 4) (r : Fin 144) (l : Fin 128) : sg10 q k aw (ix3 x r l) = SK q k aw r l (P10 x) 10 := by
  unfold sg10 SK
  rw [score4_at]
  refine Finset.sum_congr rfl fun f _ => ?_
  rw [node_at 10 _ (by decide)]
  unfold node
  pointwise
  fin_cases x <;> rfl

/-- The nodes with an edge into node 11, in order. -/
def P11 : Fin 8 → Fin 19 := ![7, 8, 9, 12, 13, 14, 17, 18]

theorem sg11_at (x : Fin 8) (r : Fin 144) (l : Fin 128) : sg11 q k aw (ix3 x r l) = SK q k aw r l (P11 x) 11 := by
  unfold sg11 SK
  rw [score8_at]
  refine Finset.sum_congr rfl fun f _ => ?_
  rw [node_at 11 _ (by decide)]
  unfold node
  pointwise
  fin_cases x <;> rfl

/-- The nodes with an edge into node 12, in order. -/
def P12 : Fin 5 → Fin 19 := ![8, 11, 13, 17, 18]

theorem sg12_at (x : Fin 5) (r : Fin 144) (l : Fin 128) : sg12 q k aw (ix3 x r l) = SK q k aw r l (P12 x) 12 := by
  unfold sg12 SK
  rw [score5_at]
  refine Finset.sum_congr rfl fun f _ => ?_
  rw [node_at 12 _ (by decide)]
  unfold node
  pointwise
  fin_cases x <;> rfl

/-- The nodes with an edge into node 13, in order. -/
def P13 : Fin 4 → Fin 19 := ![11, 12, 17, 18]

theorem sg13_at (x : Fin 4) (r : Fin 144) (l : Fin 128) : sg13 q k aw (ix3 x r l) = SK q k aw r l (P13 x) 13 := by
  unfold sg13 SK
  rw [score4_at]
  refine Finset.sum_congr rfl fun f _ => ?_
  rw [node_at 13 _ (by decide)]
  unfold node
  pointwise
  fin_cases x <;> rfl

/-- The nodes with an edge into node 14, in order. -/
def P14 : Fin 8 → Fin 19 := ![7, 8, 9, 11, 15, 16, 17, 18]

theorem sg14_at (x : Fin 8) (r : Fin 144) (l : Fin 128) : sg14 q k aw (ix3 x r l) = SK q k aw r l (P14 x) 14 := by
  unfold sg14 SK
  rw [score8_at]
  refine Finset.sum_congr rfl fun f _ => ?_
  rw [node_at 14 _ (by decide)]
  unfold node
  pointwise
  fin_cases x <;> rfl

/-- The nodes with an edge into node 15, in order. -/
def P15 : Fin 5 → Fin 19 := ![8, 14, 16, 17, 18]

theorem sg15_at (x : Fin 5) (r : Fin 144) (l : Fin 128) : sg15 q k aw (ix3 x r l) = SK q k aw r l (P15 x) 15 := by
  unfold sg15 SK
  rw [score5_at]
  refine Finset.sum_congr rfl fun f _ => ?_
  rw [node_at 15 _ (by decide)]
  unfold node
  pointwise
  fin_cases x <;> rfl

/-- The nodes with an edge into node 16, in order. -/
def P16 : Fin 4 → Fin 19 := ![14, 15, 17, 18]

theorem sg16_at (x : Fin 4) (r : Fin 144) (l : Fin 128) : sg16 q k aw (ix3 x r l) = SK q k aw r l (P16 x) 16 := by
  unfold sg16 SK
  rw [score4_at]
  refine Finset.sum_congr rfl fun f _ => ?_
  rw [node_at 16 _ (by decide)]
  unfold node
  pointwise
  fin_cases x <;> rfl

end Cert.KernelIdeal.Model

end
-- ==== Proof.Scores2.lean ====
/- The scores of the edges into the two appended nodes, the largest score, and the weights, read at an index. -/
module

public import proofs.«01_k».proof.Proof.Scores
public import Idealize.ShloMosaic.Lib.Pipeline.Value

@[expose] public section

set_option maxRecDepth 16384

noncomputable section

namespace Cert.KernelIdeal.Model

open Idealize.ShloMosaic Idealize.SL.Sem Cert.KernelIdeal Cert.KernelIdeal.Gen Cert.Row

/-- Seventeen boxes of one row side by side, read at an index. -/
theorem cat17 (f : Fin 17 → FVec Ideal S1x144x256 .f32)
    (h : Shape.Concatenates ((List.ofFn fun n : Fin 17 => (⟨S1x144x256, f n⟩ : (s : Shape) × (s.Idx → Ideal .f32))).map (·.1)) S17x144x256 0)
    (x : Fin 17) (r : Fin 144) (l : Fin 256) :
    concatenate S17x144x256 0 (List.ofFn fun n : Fin 17 => (⟨S1x144x256, f n⟩ : (s : Shape) × (s.Idx → Ideal .f32))) h (ix3 x r l) = f x (ix3 0 r l) := by
  refine concatenate_ofFn_apply 0 f h rfl 1 rfl (ix3 x r l) x (Nat.div_one _) (ix3 0 r l) (Nat.mod_one _).symm fun b hb => ?_
  fin_cases b
  · exact absurd rfl hb
  · rfl
  · rfl

theorem nodes17 (n : Fin 17) : S19x144x256.Slices ![n.val, 0, 0] S1x144x256 := by
  revert n; decide

variable (q k : FVec Ideal S19x144x256 .f32) (aw : FVec Ideal S256x128 .f32) (v : FVec Ideal S19x144x128 .f32)

/-- The first seventeen nodes' rows side by side are the rows themselves. -/
theorem first17 (h : Shape.Concatenates ((List.ofFn fun n : Fin 17 => (⟨S1x144x256, node n.val (nodes17 n) q⟩ : (s : Shape) × (s.Idx → Ideal .f32))).map (·.1)) S17x144x256 0)
    (x : Fin 17) (r : Fin 144) (l : Fin 256) :
    concatenate S17x144x256 0 (List.ofFn fun n : Fin 17 => (⟨S1x144x256, node n.val (nodes17 n) q⟩ : (s : Shape) × (s.Idx → Ideal .f32))) h (ix3 x r l)
      = q (ix3 ⟨x.val, by omega⟩ r l) := by
  rw [cat17, node_at x.val _ (by omega)]

/-- The nodes with an edge into node 17, in order. -/
def P17 : Fin 17 → Fin 19 := ![0, 1, 2, 3, 4, 5, 6, 7, 8, 9, 10, 11, 12, 13, 14, 15, 16]

theorem sg17_at (x : Fin 17) (r : Fin 144) (l : Fin 128) : sg17 q k aw (ix3 x r l) = SK q k aw r l (P17 x) 17 := by
  unfold sg17 SK
  rw [score17_at]
  refine Finset.sum_congr rfl fun f _ => ?_
  rw [node_at 17 _ (by decide)]
  have e : P17 x = ⟨x.val, by omega⟩ := by revert x; decide
  rw [e]
  refine congrArg (fun t => spK (t + k (ix3 17 r f)) * aw (ix2 f l)) ?_
  exact first17 q _ x r f

/-- The nodes with an edge into node 18, in order. -/
def P18 : Fin 17 → Fin 19 := ![0, 1, 2, 3, 4, 5, 6, 7, 8, 9, 10, 11, 12, 13, 14, 15, 16]

theorem sg18_at (x : Fin 17) (r : Fin 144) (l : Fin 128) : sg18 q k aw (ix3 x r l) = SK q k aw r l (P18 x) 18 := by
  unfold sg18 SK
  rw [score17_at]
  refine Finset.sum_congr rfl fun f _ => ?_
  rw [node_at 18 _ (by decide)]
  have e : P18 x = ⟨x.val, by omega⟩ := by revert x; decide
  rw [e]
  refine congrArg (fun t => spK (t + k (ix3 18 r f)) * aw (ix2 f l)) ?_
  exact first17 q _ x r f

/-- The running maximum's start is minus infinity. -/
theorem m0_at (r : Fin 144) (l : Fin 128) : m0 (ix2 r l) = ⊥ := rfl

theorem m1_le (r : Fin 144) (l : Fin 128) (b : EReal) :
    m1 q k aw (ix2 r l) ≤ b ↔ m0 (ix2 r l) ≤ b ∧ ∀ i ∈ preds 0, SK q k aw r l i 0 ≤ b := by
  unfold m1
  rw [maxi8_le, show preds 0 = List.ofFn P0 by decide, List.forall_mem_ofFn_iff]
  simp only [sg0_at]

theorem m2_le (r : Fin 144) (l : Fin 128) (b : EReal) :
    m2 q k aw (ix2 r l) ≤ b ↔ m1 q k aw (ix2 r l) ≤ b ∧ ∀ i ∈ preds 1, SK q k aw r l i 1 ≤ b := by
  unfold m2
  rw [maxi7_le, show preds 1 = List.ofFn P1 by decide, List.forall_mem_ofFn_iff]
  simp only [sg1_at]

theorem m3_le (r : Fin 144) (l : Fin 128) (b : EReal) :
    m3 q k aw (ix2 r l) ≤ b ↔ m2 q k aw (ix2 r l) ≤ b ∧ ∀ i ∈ preds 2, SK q k aw r l i 2 ≤ b := by
  unfold m3
  rw [maxi5_le, show preds 2 = List.ofFn P2 by decide, List.forall_mem_ofFn_iff]
  simp only [sg2_at]

theorem m4_le (r : Fin 144) (l : Fin 128) (b : EReal) :
    m4 q k aw (ix2 r l) ≤ b ↔ m3 q k aw (ix2 r l) ≤ b ∧ ∀ i ∈ preds 3, SK q k aw r l i 3 ≤ b := by
  unfold m4
  rw [maxi4_le, show preds 3 = List.ofFn P3 by decide, List.forall_mem_ofFn_iff]
  simp only [sg3_at]

theorem m5_le (r : Fin 144) (l : Fin 128) (b : EReal) :
    m5 q k aw (ix2 r l) ≤ b ↔ m4 q k aw (ix2 r l) ≤ b ∧ ∀ i ∈ preds 4, SK q k aw r l i 4 ≤ b := by
  unfold m5
  rw [maxi7_le, show preds 4 = List.ofFn P4 by decide, List.forall_mem_ofFn_iff]
  simp only [sg4_at]

theorem m6_le (r : Fin 144) (l : Fin 128) (b : EReal) :
    m6 q k aw (ix2 r l) ≤ b ↔ m5 q k aw (ix2 r l) ≤ b ∧ ∀ i ∈ preds 5, SK q k aw r l i 5 ≤ b := by
  unfold m6
  rw [maxi5_le, show preds 5 = List.ofFn P5 by decide, List.forall_mem_ofFn_iff]
  simp only [sg5_at]

theorem m7_le (r : Fin 144) (l : Fin 128) (b : EReal) :
    m7 q k aw (ix2 r l) ≤ b ↔ m6 q k aw (ix2 r l) ≤ b ∧ ∀ i ∈ preds 6, SK q k aw r l i 6 ≤ b := by
  unfold m7
  rw [maxi4_le, show preds 6 = List.ofFn P6 by decide, List.forall_mem_ofFn_iff]
  simp only [sg6_at]

theorem m8_le (r : Fin 144) (l : Fin 128) (b : EReal) :
    m8 q k aw (ix2 r l) ≤ b ↔ m7 q k aw (ix2 r l) ≤ b ∧ ∀ i ∈ preds 7, SK q k aw r l i 7 ≤ b := by
  unfold m8
  rw [maxi9_le, show preds 7 = List.ofFn P7 by decide, List.forall_mem_ofFn_iff]
  simp only [sg7_at]

theorem m9_le (r : Fin 144) (l : Fin 128) (b : EReal) :
    m9 q k aw (ix2 r l) ≤ b ↔ m8 q k aw (ix2 r l) ≤ b ∧ ∀ i ∈ preds 8, SK q k aw r l i 8 ≤ b := by
  unfold m9
  rw [maxi10_le, show preds 8 = List.ofFn P8 by decide, List.forall_mem_ofFn_iff]
  simp only [sg8_at]

theorem m10_le (r : Fin 144) (l : Fin 128) (b : EReal) :
    m10 q k aw (ix2 r l) ≤ b ↔ m9 q k aw (ix2 r l) ≤ b ∧ ∀ i ∈ preds 9, SK q k aw r l i 9 ≤ b := by
  unfold m10
  rw [maxi7_le, show preds 9 = List.ofFn P9 by decide, List.forall_mem_ofFn_iff]
  simp only [sg9_at]

theorem m11_le (r : Fin 144) (l : Fin 128) (b : EReal) :
    m11 q k aw (ix2 r l) ≤ b ↔ m10 q k aw (ix2 r l) ≤ b ∧ ∀ i ∈ preds 10, SK q k aw r l i 10 ≤ b := by
  unfold m11
  rw [maxi4_le, show preds 10 = List.ofFn P10 by decide, List.forall_mem_ofFn_iff]
  simp only [sg10_at]

theorem m12_le (r : Fin 144) (l : Fin 128) (b : EReal) :
    m12 q k aw (ix2 r l) ≤ b ↔ m11 q k aw (ix2 r l) ≤ b ∧ ∀ i ∈ preds 11, SK q k aw r l i 11 ≤ b := by
  unfold m12
  rw [maxi8_le, show preds 11 = List.ofFn P11 by decide, List.forall_mem_ofFn_iff]
  simp only [sg11_at]

theorem m13_le (r : Fin 144) (l : Fin 128) (b : EReal) :
    m13 q k aw (ix2 r l) ≤ b ↔ m12 q k aw (ix2 r l) ≤ b ∧ ∀ i ∈ preds 12, SK q k aw r l i 12 ≤ b := by
  unfold m13
  rw [maxi5_le, show preds 12 = List.ofFn P12 by decide, List.forall_mem_ofFn_iff]
  simp only [sg12_at]

theorem m14_le (r : Fin 144) (l : Fin 128) (b : EReal) :
    m14 q k aw (ix2 r l) ≤ b ↔ m13 q k aw (ix2 r l) ≤ b ∧ ∀ i ∈ preds 13, SK q k aw r l i 13 ≤ b := by
  unfold m14
  rw [maxi4_le, show preds 13 = List.ofFn P13 by decide, List.forall_mem_ofFn_iff]
  simp only [sg13_at]

theorem m15_le (r : Fin 144) (l : Fin 128) (b : EReal) :
    m15 q k aw (ix2 r l) ≤ b ↔ m14 q k aw (ix2 r l) ≤ b ∧ ∀ i ∈ preds 14, SK q k aw r l i 14 ≤ b := by
  unfold m15
  rw [maxi8_le, show preds 14 = List.ofFn P14 by decide, List.forall_mem_ofFn_iff]
  simp only [sg14_at]

theorem m16_le (r : Fin 144) (l : Fin 128) (b : EReal) :
    m16 q k aw (ix2 r l) ≤ b ↔ m15 q k aw (ix2 r l) ≤ b ∧ ∀ i ∈ preds 15, SK q k aw r l i 15 ≤ b := by
  unfold m16
  rw [maxi5_le, show preds 15 = List.ofFn P15 by decide, List.forall_mem_ofFn_iff]
  simp only [sg15_at]

theorem m17_le (r : Fin 144) (l : Fin 128) (b : EReal) :
    m17 q k aw (ix2 r l) ≤ b ↔ m16 q k aw (ix2 r l) ≤ b ∧ ∀ i ∈ preds 16, SK q k aw r l i 16 ≤ b := by
  unfold m17
  rw [maxi4_le, show preds 16 = List.ofFn P16 by decide, List.forall_mem_ofFn_iff]
  simp only [sg16_at]

theorem m18_le (r : Fin 144) (l : Fin 128) (b : EReal) :
    m18 q k aw (ix2 r l) ≤ b ↔ m17 q k aw (ix2 r l) ≤ b ∧ ∀ i ∈ preds 17, SK q k aw r l i 17 ≤ b := by
  unfold m18
  rw [maxi17_le, show preds 17 = List.ofFn P17 by decide, List.forall_mem_ofFn_iff]
  simp only [sg17_at]

theorem m19_le (r : Fin 144) (l : Fin 128) (b : EReal) :
    m19 q k aw (ix2 r l) ≤ b ↔ m18 q k aw (ix2 r l) ≤ b ∧ ∀ i ∈ preds 18, SK q k aw r l i 18 ≤ b := by
  unfold m19
  rw [maxi17_le, show preds 18 = List.ofFn P18 by decide, List.forall_mem_ofFn_iff]
  simp only [sg18_at]

/-- The running maximum ends as the largest score over the edges. -/
theorem m19_at (r : Fin 144) (l : Fin 128) : m19 q k aw (ix2 r l) = top (SK q k aw r l) := by
  refine eq_of_forall_ge_iff fun b => ?_
  rw [top_le_iff, m19_le, m18_le, m17_le, m16_le, m15_le, m14_le, m13_le, m12_le, m11_le, m10_le, m9_le, m8_le, m7_le, m6_le, m5_le, m4_le, m3_le, m2_le, m1_le, m0_at]
  constructor
  · rintro ⟨⟨⟨⟨⟨⟨⟨⟨⟨⟨⟨⟨⟨⟨⟨⟨⟨⟨⟨-, h0⟩, h1⟩, h2⟩, h3⟩, h4⟩, h5⟩, h6⟩, h7⟩, h8⟩, h9⟩, h10⟩, h11⟩, h12⟩, h13⟩, h14⟩, h15⟩, h16⟩, h17⟩, h18⟩
    intro j
    fin_cases j
    · exact h0
    · exact h1
    · exact h2
    · exact h3
    · exact h4
    · exact h5
    · exact h6
    · exact h7
    · exact h8
    · exact h9
    · exact h10
    · exact h11
    · exact h12
    · exact h13
    · exact h14
    · exact h15
    · exact h16
    · exact h17
    · exact h18
  · intro h
    exact ⟨⟨⟨⟨⟨⟨⟨⟨⟨⟨⟨⟨⟨⟨⟨⟨⟨⟨⟨bot_le, h 0⟩, h 1⟩, h 2⟩, h 3⟩, h 4⟩, h 5⟩, h 6⟩, h 7⟩, h 8⟩, h 9⟩, h 10⟩, h 11⟩, h 12⟩, h 13⟩, h 14⟩, h 15⟩, h 16⟩, h 17⟩, h 18⟩

theorem e0_at (x : Fin 8) (r : Fin 144) (l : Fin 128) : e0 q k aw (ix3 x r l) = z (SK q k aw r l) (P0 x) 0 := by
  unfold e0 z
  rw [expo8_at, sg0_at, m19_at]

theorem e1_at (x : Fin 7) (r : Fin 144) (l : Fin 128) : e1 q k aw (ix3 x r l) = z (SK q k aw r l) (P1 x) 1 := by
  unfold e1 z
  rw [expo7_at, sg1_at, m19_at]

theorem e2_at (x : Fin 5) (r : Fin 144) (l : Fin 128) : e2 q k aw (ix3 x r l) = z (SK q k aw r l) (P2 x) 2 := by
  unfold e2 z
  rw [expo5_at, sg2_at, m19_at]

theorem e3_at (x : Fin 4) (r : Fin 144) (l : Fin 128) : e3 q k aw (ix3 x r l) = z (SK q k aw r l) (P3 x) 3 := by
  unfold e3 z
  rw [expo4_at, sg3_at, m19_at]

theorem e4_at (x : Fin 7) (r : Fin 144) (l : Fin 128) : e4 q k aw (ix3 x r l) = z (SK q k aw r l) (P4 x) 4 := by
  unfold e4 z
  rw [expo7_at, sg4_at, m19_at]

theorem e5_at (x : Fin 5) (r : Fin 144) (l : Fin 128) : e5 q k aw (ix3 x r l) = z (SK q k aw r l) (P5 x) 5 := by
  unfold e5 z
  rw [expo5_at, sg5_at, m19_at]

theorem e6_at (x : Fin 4) (r : Fin 144) (l : Fin 128) : e6 q k aw (ix3 x r l) = z (SK q k aw r l) (P6 x) 6 := by
  unfold e6 z
  rw [expo4_at, sg6_at, m19_at]

theorem e7_at (x : Fin 9) (r : Fin 144) (l : Fin 128) : e7 q k aw (ix3 x r l) = z (SK q k aw r l) (P7 x) 7 := by
  unfold e7 z
  rw [expo9_at, sg7_at, m19_at]

theorem e8_at (x : Fin 10) (r : Fin 144) (l : Fin 128) : e8 q k aw (ix3 x r l) = z (SK q k aw r l) (P8 x) 8 := by
  unfold e8 z
  rw [expo10_at, sg8_at, m19_at]

theorem e9_at (x : Fin 7) (r : Fin 144) (l : Fin 128) : e9 q k aw (ix3 x r l) = z (SK q k aw r l) (P9 x) 9 := by
  unfold e9 z
  rw [expo7_at, sg9_at, m19_at]

theorem e10_at (x : Fin 4) (r : Fin 144) (l : Fin 128) : e10 q k aw (ix3 x r l) = z (SK q k aw r l) (P10 x) 10 := by
  unfold e10 z
  rw [expo4_at, sg10_at, m19_at]

theorem e11_at (x : Fin 8) (r : Fin 144) (l : Fin 128) : e11 q k aw (ix3 x r l) = z (SK q k aw r l) (P11 x) 11 := by
  unfold e11 z
  rw [expo8_at, sg11_at, m19_at]

theorem e12_at (x : Fin 5) (r : Fin 144) (l : Fin 128) : e12 q k aw (ix3 x r l) = z (SK q k aw r l) (P12 x) 12 := by
  unfold e12 z
  rw [expo5_at, sg12_at, m19_at]

theorem e13_at (x : Fin 4) (r : Fin 144) (l : Fin 128) : e13 q k aw (ix3 x r l) = z (SK q k aw r l) (P13 x) 13 := by
  unfold e13 z
  rw [expo4_at, sg13_at, m19_at]

theorem e14_at (x : Fin 8) (r : Fin 144) (l : Fin 128) : e14 q k aw (ix3 x r l) = z (SK q k aw r l) (P14 x) 14 := by
  unfold e14 z
  rw [expo8_at, sg14_at, m19_at]

theorem e15_at (x : Fin 5) (r : Fin 144) (l : Fin 128) : e15 q k aw (ix3 x r l) = z (SK q k aw r l) (P15 x) 15 := by
  unfold e15 z
  rw [expo5_at, sg15_at, m19_at]

theorem e16_at (x : Fin 4) (r : Fin 144) (l : Fin 128) : e16 q k aw (ix3 x r l) = z (SK q k aw r l) (P16 x) 16 := by
  unfold e16 z
  rw [expo4_at, sg16_at, m19_at]

theorem e17_at (x : Fin 17) (r : Fin 144) (l : Fin 128) : e17 q k aw (ix3 x r l) = z (SK q k aw r l) (P17 x) 17 := by
  unfold e17 z
  rw [expo17_at, sg17_at, m19_at]

theorem e18_at (x : Fin 17) (r : Fin 144) (l : Fin 128) : e18 q k aw (ix3 x r l) = z (SK q k aw r l) (P18 x) 18 := by
  unfold e18 z
  rw [expo17_at, sg18_at, m19_at]

end Cert.KernelIdeal.Model
-- ==== Proof.Sums.lean ====
/- The sums of the weights and of the weighted values out of each node, read at an index. -/
module

public import proofs.«01_k».proof.Proof.Scores2

@[expose] public section

set_option maxRecDepth 16384

noncomputable section

namespace Cert.KernelIdeal.Model

open Idealize.ShloMosaic Idealize.SL.Sem Cert.KernelIdeal Cert.KernelIdeal.Gen Cert.Row

theorem sum19 (f : Fin 19 → EReal) : ∑ j, f j = f 0 + f 1 + f 2 + f 3 + f 4 + f 5 + f 6 + f 7 + f 8 + f 9 + f 10 + f 11 + f 12 + f 13 + f 14 + f 15 + f 16 + f 17 + f 18 := by
  simp only [Fin.sum_univ_castSucc, Fin.sum_univ_zero, zero_add]
  rfl

variable (q k : FVec Ideal S19x144x256 .f32) (aw : FVec Ideal S256x128 .f32) (v : FVec Ideal S19x144x128 .f32)

theorem sum_adj0 (f : Fin 19 → EReal) : (∑ j, if adj 0 j then f j else 0) = f 1 + f 2 + f 4 + f 5 + f 7 + f 8 + f 17 + f 18 := by
  rw [sum19]
  simp (decide := true) only [↓reduceIte, add_zero, zero_add]

theorem den0_at (r : Fin 144) (l : Fin 128) : den0 q k aw (ix2 r l) = den (SK q k aw r l) 0 := by
  have h : den0 q k aw (ix2 r l) = e1 q k aw (ix3 0 r l) + e2 q k aw (ix3 0 r l) + e4 q k aw (ix3 0 r l) + e5 q k aw (ix3 0 r l) + e7 q k aw (ix3 0 r l) + e8 q k aw (ix3 0 r l) + e17 q k aw (ix3 0 r l) + e18 q k aw (ix3 0 r l) := by
    unfold den0 vsum pick5 pick7 pick9 pick10 pick17
    simp only [List.foldl_cons, List.foldl_nil]
    pointwise
  rw [h, den, sum_adj0]
  simp only [e1_at, e2_at, e4_at, e5_at, e7_at, e8_at, e17_at, e18_at]
  rfl

theorem acc0_at (r : Fin 144) (l : Fin 128) : acc0 q k aw v (ix2 r l) = ∑ j, if adj 0 j then z (SK q k aw r l) 0 j * v (ix3 j r l) else 0 := by
  have h : acc0 q k aw v (ix2 r l) = e1 q k aw (ix3 0 r l) * v (ix3 1 r l) + e2 q k aw (ix3 0 r l) * v (ix3 2 r l) + e4 q k aw (ix3 0 r l) * v (ix3 4 r l) + e5 q k aw (ix3 0 r l) * v (ix3 5 r l) + e7 q k aw (ix3 0 r l) * v (ix3 7 r l) + e8 q k aw (ix3 0 r l) * v (ix3 8 r l) + e17 q k aw (ix3 0 r l) * v (ix3 17 r l) + e18 q k aw (ix3 0 r l) * v (ix3 18 r l) := by
    unfold acc0 vsum vnode pick5 pick7 pick9 pick10 pick17
    simp only [List.foldl_cons, List.foldl_nil]
    pointwise
  rw [h, sum_adj0 fun j => z (SK q k aw r l) 0 j * v (ix3 j r l)]
  simp only [e1_at, e2_at, e4_at, e5_at, e7_at, e8_at, e17_at, e18_at]
  rfl

theorem sum_adj1 (f : Fin 19 → EReal) : (∑ j, if adj 1 j then f j else 0) = f 0 + f 2 + f 3 + f 4 + f 7 + f 17 + f 18 := by
  rw [sum19]
  simp (decide := true) only [↓reduceIte, add_zero, zero_add]

theorem den1_at (r : Fin 144) (l : Fin 128) : den1 q k aw (ix2 r l) = den (SK q k aw r l) 1 := by
  have h : den1 q k aw (ix2 r l) = e0 q k aw (ix3 0 r l) + e2 q k aw (ix3 1 r l) + e3 q k aw (ix3 0 r l) + e4 q k aw (ix3 1 r l) + e7 q k aw (ix3 1 r l) + e17 q k aw (ix3 1 r l) + e18 q k aw (ix3 1 r l) := by
    unfold den1 vsum pick4 pick5 pick7 pick8 pick9 pick17
    simp only [List.foldl_cons, List.foldl_nil]
    pointwise
  rw [h, den, sum_adj1]
  simp only [e0_at, e2_at, e3_at, e4_at, e7_at, e17_at, e18_at]
  rfl

theorem acc1_at (r : Fin 144) (l : Fin 128) : acc1 q k aw v (ix2 r l) = ∑ j, if adj 1 j then z (SK q k aw r l) 1 j * v (ix3 j r l) else 0 := by
  have h : acc1 q k aw v (ix2 r l) = e0 q k aw (ix3 0 r l) * v (ix3 0 r l) + e2 q k aw (ix3 1 r l) * v (ix3 2 r l) + e3 q k aw (ix3 0 r l) * v (ix3 3 r l) + e4 q k aw (ix3 1 r l) * v (ix3 4 r l) + e7 q k aw (ix3 1 r l) * v (ix3 7 r l) + e17 q k aw (ix3 1 r l) * v (ix3 17 r l) + e18 q k aw (ix3 1 r l) * v (ix3 18 r l) := by
    unfold acc1 vsum vnode pick4 pick5 pick7 pick8 pick9 pick17
    simp only [List.foldl_cons, List.foldl_nil]
    pointwise
  rw [h, sum_adj1 fun j => z (SK q k aw r l) 1 j * v (ix3 j r l)]
  simp only [e0_at, e2_at, e3_at, e4_at, e7_at, e17_at, e18_at]
  rfl

theorem sum_adj2 (f : Fin 19 → EReal) : (∑ j, if adj 2 j then f j else 0) = f 0 + f 1 + f 3 + f 17 + f 18 := by
  rw [sum19]
  simp (decide := true) only [↓reduceIte, add_zero, zero_add]

theorem den2_at (r : Fin 144) (l : Fin 128) : den2 q k aw (ix2 r l) = den (SK q k aw r l) 2 := by
  have h : den2 q k aw (ix2 r l) = e0 q k aw (ix3 1 r l) + e1 q k aw (ix3 1 r l) + e3 q k aw (ix3 1 r l) + e17 q k aw (ix3 2 r l) + e18 q k aw (ix3 2 r l) := by
    unfold den2 vsum pick4 pick7 pick8 pick17
    simp only [List.foldl_cons, List.foldl_nil]
    pointwise
  rw [h, den, sum_adj2]
  simp only [e0_at, e1_at, e3_at, e17_at, e18_at]
  rfl

theorem acc2_at (r : Fin 144) (l : Fin 128) : acc2 q k aw v (ix2 r l) = ∑ j, if adj 2 j then z (SK q k aw r l) 2 j * v (ix3 j r l) else 0 := by
  have h : acc2 q k aw v (ix2 r l) = e0 q k aw (ix3 1 r l) * v (ix3 0 r l) + e1 q k aw (ix3 1 r l) * v (ix3 1 r l) + e3 q k aw (ix3 1 r l) * v (ix3 3 r l) + e17 q k aw (ix3 2 r l) * v (ix3 17 r l) + e18 q k aw (ix3 2 r l) * v (ix3 18 r l) := by
    unfold acc2 vsum vnode pick4 pick7 pick8 pick17
    simp only [List.foldl_cons, List.foldl_nil]
    pointwise
  rw [h, sum_adj2 fun j => z (SK q k aw r l) 2 j * v (ix3 j r l)]
  simp only [e0_at, e1_at, e3_at, e17_at, e18_at]
  rfl

theorem sum_adj3 (f : Fin 19 → EReal) : (∑ j, if adj 3 j then f j else 0) = f 1 + f 2 + f 17 + f 18 := by
  rw [sum19]
  simp (decide := true) only [↓reduceIte, add_zero, zero_add]

theorem den3_at (r : Fin 144) (l : Fin 128) : den3 q k aw (ix2 r l) = den (SK q k aw r l) 3 := by
  have h : den3 q k aw (ix2 r l) = e1 q k aw (ix3 2 r l) + e2 q k aw (ix3 2 r l) + e17 q k aw (ix3 3 r l) + e18 q k aw (ix3 3 r l) := by
    unfold den3 vsum pick5 pick7 pick17
    simp only [List.foldl_cons, List.foldl_nil]
    pointwise
  rw [h, den, sum_adj3]
  simp only [e1_at, e2_at, e17_at, e18_at]
  rfl

theorem acc3_at (r : Fin 144) (l : Fin 128) : acc3 q k aw v (ix2 r l) = ∑ j, if adj 3 j then z (SK q k aw r l) 3 j * v (ix3 j r l) else 0 := by
  have h : acc3 q k aw v (ix2 r l) = e1 q k aw (ix3 2 r l) * v (ix3 1 r l) + e2 q k aw (ix3 2 r l) * v (ix3 2 r l) + e17 q k aw (ix3 3 r l) * v (ix3 17 r l) + e18 q k aw (ix3 3 r l) * v (ix3 18 r l) := by
    unfold acc3 vsum vnode pick5 pick7 pick17
    simp only [List.foldl_cons, List.foldl_nil]
    pointwise
  rw [h, sum_adj3 fun j => z (SK q k aw r l) 3 j * v (ix3 j r l)]
  simp only [e1_at, e2_at, e17_at, e18_at]
  rfl

theorem sum_adj4 (f : Fin 19 → EReal) : (∑ j, if adj 4 j then f j else 0) = f 0 + f 1 + f 5 + f 6 + f 7 + f 17 + f 18 := by
  rw [sum19]
  simp (decide := true) only [↓reduceIte, add_zero, zero_add]

theorem den4_at (r : Fin 144) (l : Fin 128) : den4 q k aw (ix2 r l) = den (SK q k aw r l) 4 := by
  have h : den4 q k aw (ix2 r l) = e0 q k aw (ix3 2 r l) + e1 q k aw (ix3 3 r l) + e5 q k aw (ix3 1 r l) + e6 q k aw (ix3 0 r l) + e7 q k aw (ix3 2 r l) + e17 q k aw (ix3 4 r l) + e18 q k aw (ix3 4 r l) := by
    unfold den4 vsum pick4 pick5 pick7 pick8 pick9 pick17
    simp only [List.foldl_cons, List.foldl_nil]
    pointwise
  rw [h, den, sum_adj4]
  simp only [e0_at, e1_at, e5_at, e6_at, e7_at, e17_at, e18_at]
  rfl

theorem acc4_at (r : Fin 144) (l : Fin 128) : acc4 q k aw v (ix2 r l) = ∑ j, if adj 4 j then z (SK q k aw r l) 4 j * v (ix3 j r l) else 0 := by
  have h : acc4 q k aw v (ix2 r l) = e0 q k aw (ix3 2 r l) * v (ix3 0 r l) + e1 q k aw (ix3 3 r l) * v (ix3 1 r l) + e5 q k aw (ix3 1 r l) * v (ix3 5 r l) + e6 q k aw (ix3 0 r l) * v (ix3 6 r l) + e7 q k aw (ix3 2 r l) * v (ix3 7 r l) + e17 q k aw (ix3 4 r l) * v (ix3 17 r l) + e18 q k aw (ix3 4 r l) * v (ix3 18 r l) := by
    unfold acc4 vsum vnode pick4 pick5 pick7 pick8 pick9 pick17
    simp only [List.foldl_cons, List.foldl_nil]
    pointwise
  rw [h, sum_adj4 fun j => z (SK q k aw r l) 4 j * v (ix3 j r l)]
  simp only [e0_at, e1_at, e5_at, e6_at, e7_at, e17_at, e18_at]
  rfl

theorem sum_adj5 (f : Fin 19 → EReal) : (∑ j, if adj 5 j then f j else 0) = f 0 + f 4 + f 6 + f 17 + f 18 := by
  rw [sum19]
  simp (decide := true) only [↓reduceIte, add_zero, zero_add]

theorem den5_at (r : Fin 144) (l : Fin 128) : den5 q k aw (ix2 r l) = den (SK q k aw r l) 5 := by
  have h : den5 q k aw (ix2 r l) = e0 q k aw (ix3 3 r l) + e4 q k aw (ix3 2 r l) + e6 q k aw (ix3 1 r l) + e17 q k aw (ix3 5 r l) + e18 q k aw (ix3 5 r l) := by
    unfold den5 vsum pick4 pick7 pick8 pick17
    simp only [List.foldl_cons, List.foldl_nil]
    pointwise
  rw [h, den, sum_adj5]
  simp only [e0_at, e4_at, e6_at, e17_at, e18_at]
  rfl

theorem acc5_at (r : Fin 144) (l : Fin 128) : acc5 q k aw v (ix2 r l) = ∑ j, if adj 5 j then z (SK q k aw r l) 5 j * v (ix3 j r l) else 0 := by
  have h : acc5 q k aw v (ix2 r l) = e0 q k aw (ix3 3 r l) * v (ix3 0 r l) + e4 q k aw (ix3 2 r l) * v (ix3 4 r l) + e6 q k aw (ix3 1 r l) * v (ix3 6 r l) + e17 q k aw (ix3 5 r l) * v (ix3 17 r l) + e18 q k aw (ix3 5 r l) * v (ix3 18 r l) := by
    unfold acc5 vsum vnode pick4 pick7 pick8 pick17
    simp only [List.foldl_cons, List.foldl_nil]
    pointwise
  rw [h, sum_adj5 fun j => z (SK q k aw r l) 5 j * v (ix3 j r l)]
  simp only [e0_at, e4_at, e6_at, e17_at, e18_at]
  rfl

theorem sum_adj6 (f : Fin 19 → EReal) : (∑ j, if adj 6 j then f j else 0) = f 4 + f 5 + f 17 + f 18 := by
  rw [sum19]
  simp (decide := true) only [↓reduceIte, add_zero, zero_add]

theorem den6_at (r : Fin 144) (l : Fin 128) : den6 q k aw (ix2 r l) = den (SK q k aw r l) 6 := by
  have h : den6 q k aw (ix2 r l) = e4 q k aw (ix3 3 r l) + e5 q k aw (ix3 2 r l) + e17 q k aw (ix3 6 r l) + e18 q k aw (ix3 6 r l) := by
    unfold den6 vsum pick5 pick7 pick17
    simp only [List.foldl_cons, List.foldl_nil]
    pointwise
  rw [h, den, sum_adj6]
  simp only [e4_at, e5_at, e17_at, e18_at]
  rfl

theorem acc6_at (r : Fin 144) (l : Fin 128) : acc6 q k aw v (ix2 r l) = ∑ j, if adj 6 j then z (SK q k aw r l) 6 j * v (ix3 j r l) else 0 := by
  have h : acc6 q k aw v (ix2 r l) = e4 q k aw (ix3 3 r l) * v (ix3 4 r l) + e5 q k aw (ix3 2 r l) * v (ix3 5 r l) + e17 q k aw (ix3 6 r l) * v (ix3 17 r l) + e18 q k aw (ix3 6 r l) * v (ix3 18 r l) := by
    unfold acc6 vsum vnode pick5 pick7 pick17
    simp only [List.foldl_cons, List.foldl_nil]
    pointwise
  rw [h, sum_adj6 fun j => z (SK q k aw r l) 6 j * v (ix3 j r l)]
  simp only [e4_at, e5_at, e17_at, e18_at]
  rfl

theorem sum_adj7 (f : Fin 19 → EReal) : (∑ j, if adj 7 j then f j else 0) = f 0 + f 1 + f 4 + f 8 + f 9 + f 11 + f 14 + f 17 + f 18 := by
  rw [sum19]
  simp (decide := true) only [↓reduceIte, add_zero, zero_add]

theorem den7_at (r : Fin 144) (l : Fin 128) : den7 q k aw (ix2 r l) = den (SK q k aw r l) 7 := by
  have h : den7 q k aw (ix2 r l) = e0 q k aw (ix3 4 r l) + e1 q k aw (ix3 4 r l) + e4 q k aw (ix3 4 r l) + e8 q k aw (ix3 1 r l) + e9 q k aw (ix3 0 r l) + e11 q k aw (ix3 0 r l) + e14 q k aw (ix3 0 r l) + e17 q k aw (ix3 7 r l) + e18 q k aw (ix3 7 r l) := by
    unfold den7 vsum pick7 pick8 pick10 pick17
    simp only [List.foldl_cons, List.foldl_nil]
    pointwise
  rw [h, den, sum_adj7]
  simp only [e0_at, e1_at, e4_at, e8_at, e9_at, e11_at, e14_at, e17_at, e18_at]
  rfl

theorem acc7_at (r : Fin 144) (l : Fin 128) : acc7 q k aw v (ix2 r l) = ∑ j, if adj 7 j then z (SK q k aw r l) 7 j * v (ix3 j r l) else 0 := by
  have h : acc7 q k aw v (ix2 r l) = e0 q k aw (ix3 4 r l) * v (ix3 0 r l) + e1 q k aw (ix3 4 r l) * v (ix3 1 r l) + e4 q k aw (ix3 4 r l) * v (ix3 4 r l) + e8 q k aw (ix3 1 r l) * v (ix3 8 r l) + e9 q k aw (ix3 0 r l) * v (ix3 9 r l) + e11 q k aw (ix3 0 r l) * v (ix3 11 r l) + e14 q k aw (ix3 0 r l) * v (ix3 14 r l) + e17 q k aw (ix3 7 r l) * v (ix3 17 r l) + e18 q k aw (ix3 7 r l) * v (ix3 18 r l) := by
    unfold acc7 vsum vnode pick7 pick8 pick10 pick17
    simp only [List.foldl_cons, List.foldl_nil]
    pointwise
  rw [h, sum_adj7 fun j => z (SK q k aw r l) 7 j * v (ix3 j r l)]
  simp only [e0_at, e1_at, e4_at, e8_at, e9_at, e11_at, e14_at, e17_at, e18_at]
  rfl

theorem sum_adj8 (f : Fin 19 → EReal) : (∑ j, if adj 8 j then f j else 0) = f 0 + f 7 + f 9 + f 10 + f 11 + f 12 + f 14 + f 15 + f 17 + f 18 := by
  rw [sum19]
  simp (decide := true) only [↓reduceIte, add_zero, zero_add]

theorem den8_at (r : Fin 144) (l : Fin 128) : den8 q k aw (ix2 r l) = den (SK q k aw r l) 8 := by
  have h : den8 q k aw (ix2 r l) = e0 q k aw (ix3 5 r l) + e7 q k aw (ix3 3 r l) + e9 q k aw (ix3 1 r l) + e10 q k aw (ix3 0 r l) + e11 q k aw (ix3 1 r l) + e12 q k aw (ix3 0 r l) + e14 q k aw (ix3 1 r l) + e15 q k aw (ix3 0 r l) + e17 q k aw (ix3 8 r l) + e18 q k aw (ix3 8 r l) := by
    unfold den8 vsum pick4 pick5 pick7 pick8 pick9 pick17
    simp only [List.foldl_cons, List.foldl_nil]
    pointwise
  rw [h, den, sum_adj8]
  simp only [e0_at, e7_at, e9_at, e10_at, e11_at, e12_at, e14_at, e15_at, e17_at, e18_at]
  rfl

theorem acc8_at (r : Fin 144) (l : Fin 128) : acc8 q k aw v (ix2 r l) = ∑ j, if adj 8 j then z (SK q k aw r l) 8 j * v (ix3 j r l) else 0 := by
  have h : acc8 q k aw v (ix2 r l) = e0 q k aw (ix3 5 r l) * v (ix3 0 r l) + e7 q k aw (ix3 3 r l) * v (ix3 7 r l) + e9 q k aw (ix3 1 r l) * v (ix3 9 r l) + e10 q k aw (ix3 0 r l) * v (ix3 10 r l) + e11 q k aw (ix3 1 r l) * v (ix3 11 r l) + e12 q k aw (ix3 0 r l) * v (ix3 12 r l) + e14 q k aw (ix3 1 r l) * v (ix3 14 r l) + e15 q k aw (ix3 0 r l) * v (ix3 15 r l) + e17 q k aw (ix3 8 r l) * v (ix3 17 r l) + e18 q k aw (ix3 8 r l) * v (ix3 18 r l) := by
    unfold acc8 vsum vnode pick4 pick5 pick7 pick8 pick9 pick17
    simp only [List.foldl_cons, List.foldl_nil]
    pointwise
  rw [h, sum_adj8 fun j => z (SK q k aw r l) 8 j * v (ix3 j r l)]
  simp only [e0_at, e7_at, e9_at, e10_at, e11_at, e12_at, e14_at, e15_at, e17_at, e18_at]
  rfl

theorem sum_adj9 (f : Fin 19 → EReal) : (∑ j, if adj 9 j then f j else 0) = f 7 + f 8 + f 10 + f 11 + f 14 + f 17 + f 18 := by
  rw [sum19]
  simp (decide := true) only [↓reduceIte, add_zero, zero_add]

theorem den9_at (r : Fin 144) (l : Fin 128) : den9 q k aw (ix2 r l) = den (SK q k aw r l) 9 := by
  have h : den9 q k aw (ix2 r l) = e7 q k aw (ix3 4 r l) + e8 q k aw (ix3 2 r l) + e10 q k aw (ix3 1 r l) + e11 q k aw (ix3 2 r l) + e14 q k aw (ix3 2 r l) + e17 q k aw (ix3 9 r l) + e18 q k aw (ix3 9 r l) := by
    unfold den9 vsum pick4 pick8 pick9 pick10 pick17
    simp only [List.foldl_cons, List.foldl_nil]
    pointwise
  rw [h, den, sum_adj9]
  simp only [e7_at, e8_at, e10_at, e11_at, e14_at, e17_at, e18_at]
  rfl

theorem acc9_at (r : Fin 144) (l : Fin 128) : acc9 q k aw v (ix2 r l) = ∑ j, if adj 9 j then z (SK q k aw r l) 9 j * v (ix3 j r l) else 0 := by
  have h : acc9 q k aw v (ix2 r l) = e7 q k aw (ix3 4 r l) * v (ix3 7 r l) + e8 q k aw (ix3 2 r l) * v (ix3 8 r l) + e10 q k aw (ix3 1 r l) * v (ix3 10 r l) + e11 q k aw (ix3 2 r l) * v (ix3 11 r l) + e14 q k aw (ix3 2 r l) * v (ix3 14 r l) + e17 q k aw (ix3 9 r l) * v (ix3 17 r l) + e18 q k aw (ix3 9 r l) * v (ix3 18 r l) := by
    unfold acc9 vsum vnode pick4 pick8 pick9 pick10 pick17
    simp only [List.foldl_cons, List.foldl_nil]
    pointwise
  rw [h, sum_adj9 fun j => z (SK q k aw r l) 9 j * v (ix3 j r l)]
  simp only [e7_at, e8_at, e10_at, e11_at, e14_at, e17_at, e18_at]
  rfl

theorem sum_adj10 (f : Fin 19 → EReal) : (∑ j, if adj 10 j then f j else 0) = f 8 + f 9 + f 17 + f 18 := by
  rw [sum19]
  simp (decide := true) only [↓reduceIte, add_zero, zero_add]

theorem den10_at (r : Fin 144) (l : Fin 128) : den10 q k aw (ix2 r l) = den (SK q k aw r l) 10 := by
  have h : den10 q k aw (ix2 r l) = e8 q k aw (ix3 3 r l) + e9 q k aw (ix3 2 r l) + e17 q k aw (ix3 10 r l) + e18 q k aw (ix3 10 r l) := by
    unfold den10 vsum pick7 pick10 pick17
    simp only [List.foldl_cons, List.foldl_nil]
    pointwise
  rw [h, den, sum_adj10]
  simp only [e8_at, e9_at, e17_at, e18_at]
  rfl

theorem acc10_at (r : Fin 144) (l : Fin 128) : acc10 q k aw v (ix2 r l) = ∑ j, if adj 10 j then z (SK q k aw r l) 10 j * v (ix3 j r l) else 0 := by
  have h : acc10 q k aw v (ix2 r l) = e8 q k aw (ix3 3 r l) * v (ix3 8 r l) + e9 q k aw (ix3 2 r l) * v (ix3 9 r l) + e17 q k aw (ix3 10 r l) * v (ix3 17 r l) + e18 q k aw (ix3 10 r l) * v (ix3 18 r l) := by
    unfold acc10 vsum vnode pick7 pick10 pick17
    simp only [List.foldl_cons, List.foldl_nil]
    pointwise
  rw [h, sum_adj10 fun j => z (SK q k aw r l) 10 j * v (ix3 j r l)]
  simp only [e8_at, e9_at, e17_at, e18_at]
  rfl

theorem sum_adj11 (f : Fin 19 → EReal) : (∑ j, if adj 11 j then f j else 0) = f 7 + f 8 + f 9 + f 12 + f 13 + f 14 + f 17 + f 18 := by
  rw [sum19]
  simp (decide := true) only [↓reduceIte, add_zero, zero_add]

theorem den11_at (r : Fin 144) (l : Fin 128) : den11 q k aw (ix2 r l) = den (SK q k aw r l) 11 := by
  have h : den11 q k aw (ix2 r l) = e7 q k aw (ix3 5 r l) + e8 q k aw (ix3 4 r l) + e9 q k aw (ix3 3 r l) + e12 q k aw (ix3 1 r l) + e13 q k aw (ix3 0 r l) + e14 q k aw (ix3 3 r l) + e17 q k aw (ix3 11 r l) + e18 q k aw (ix3 11 r l) := by
    unfold den11 vsum pick4 pick5 pick7 pick8 pick9 pick10 pick17
    simp only [List.foldl_cons, List.foldl_nil]
    pointwise
  rw [h, den, sum_adj11]
  simp only [e7_at, e8_at, e9_at, e12_at, e13_at, e14_at, e17_at, e18_at]
  rfl

theorem acc11_at (r : Fin 144) (l : Fin 128) : acc11 q k aw v (ix2 r l) = ∑ j, if adj 11 j then z (SK q k aw r l) 11 j * v (ix3 j r l) else 0 := by
  have h : acc11 q k aw v (ix2 r l) = e7 q k aw (ix3 5 r l) * v (ix3 7 r l) + e8 q k aw (ix3 4 r l) * v (ix3 8 r l) + e9 q k aw (ix3 3 r l) * v (ix3 9 r l) + e12 q k aw (ix3 1 r l) * v (ix3 12 r l) + e13 q k aw (ix3 0 r l) * v (ix3 13 r l) + e14 q k aw (ix3 3 r l) * v (ix3 14 r l) + e17 q k aw (ix3 11 r l) * v (ix3 17 r l) + e18 q k aw (ix3 11 r l) * v (ix3 18 r l) := by
    unfold acc11 vsum vnode pick4 pick5 pick7 pick8 pick9 pick10 pick17
    simp only [List.foldl_cons, List.foldl_nil]
    pointwise
  rw [h, sum_adj11 fun j => z (SK q k aw r l) 11 j * v (ix3 j r l)]
  simp only [e7_at, e8_at, e9_at, e12_at, e13_at, e14_at, e17_at, e18_at]
  rfl

theorem sum_adj12 (f : Fin 19 → EReal) : (∑ j, if adj 12 j then f j else 0) = f 8 + f 11 + f 13 + f 17 + f 18 := by
  rw [sum19]
  simp (decide := true) only [↓reduceIte, add_zero, zero_add]

theorem den12_at (r : Fin 144) (l : Fin 128) : den12 q k aw (ix2 r l) = den (SK q k aw r l) 12 := by
  have h : den12 q k aw (ix2 r l) = e8 q k aw (ix3 5 r l) + e11 q k aw (ix3 3 r l) + e13 q k aw (ix3 1 r l) + e17 q k aw (ix3 12 r l) + e18 q k aw (ix3 12 r l) := by
    unfold den12 vsum pick4 pick8 pick10 pick17
    simp only [List.foldl_cons, List.foldl_nil]
    pointwise
  rw [h, den, sum_adj12]
  simp only [e8_at, e11_at, e13_at, e17_at, e18_at]
  rfl

theorem acc12_at (r : Fin 144) (l : Fin 128) : acc12 q k aw v (ix2 r l) = ∑ j, if adj 12 j then z (SK q k aw r l) 12 j * v (ix3 j r l) else 0 := by
  have h : acc12 q k aw v (ix2 r l) = e8 q k aw (ix3 5 r l) * v (ix3 8 r l) + e11 q k aw (ix3 3 r l) * v (ix3 11 r l) + e13 q k aw (ix3 1 r l) * v (ix3 13 r l) + e17 q k aw (ix3 12 r l) * v (ix3 17 r l) + e18 q k aw (ix3 12 r l) * v (ix3 18 r l) := by
    unfold acc12 vsum vnode pick4 pick8 pick10 pick17
    simp only [List.foldl_cons, List.foldl_nil]
    pointwise
  rw [h, sum_adj12 fun j => z (SK q k aw r l) 12 j * v (ix3 j r l)]
  simp only [e8_at, e11_at, e13_at, e17_at, e18_at]
  rfl

theorem sum_adj13 (f : Fin 19 → EReal) : (∑ j, if adj 13 j then f j else 0) = f 11 + f 12 + f 17 + f 18 := by
  rw [sum19]
  simp (decide := true) only [↓reduceIte, add_zero, zero_add]

theorem den13_at (r : Fin 144) (l : Fin 128) : den13 q k aw (ix2 r l) = den (SK q k aw r l) 13 := by
  have h : den13 q k aw (ix2 r l) = e11 q k aw (ix3 4 r l) + e12 q k aw (ix3 2 r l) + e17 q k aw (ix3 13 r l) + e18 q k aw (ix3 13 r l) := by
    unfold den13 vsum pick5 pick8 pick17
    simp only [List.foldl_cons, List.foldl_nil]
    pointwise
  rw [h, den, sum_adj13]
  simp only [e11_at, e12_at, e17_at, e18_at]
  rfl

theorem acc13_at (r : Fin 144) (l : Fin 128) : acc13 q k aw v (ix2 r l) = ∑ j, if adj 13 j then z (SK q k aw r l) 13 j * v (ix3 j r l) else 0 := by
  have h : acc13 q k aw v (ix2 r l) = e11 q k aw (ix3 4 r l) * v (ix3 11 r l) + e12 q k aw (ix3 2 r l) * v (ix3 12 r l) + e17 q k aw (ix3 13 r l) * v (ix3 17 r l) + e18 q k aw (ix3 13 r l) * v (ix3 18 r l) := by
    unfold acc13 vsum vnode pick5 pick8 pick17
    simp only [List.foldl_cons, List.foldl_nil]
    pointwise
  rw [h, sum_adj13 fun j => z (SK q k aw r l) 13 j * v (ix3 j r l)]
  simp only [e11_at, e12_at, e17_at, e18_at]
  rfl

theorem sum_adj14 (f : Fin 19 → EReal) : (∑ j, if adj 14 j then f j else 0) = f 7 + f 8 + f 9 + f 11 + f 15 + f 16 + f 17 + f 18 := by
  rw [sum19]
  simp (decide := true) only [↓reduceIte, add_zero, zero_add]

theorem den14_at (r : Fin 144) (l : Fin 128) : den14 q k aw (ix2 r l) = den (SK q k aw r l) 14 := by
  have h : den14 q k aw (ix2 r l) = e7 q k aw (ix3 6 r l) + e8 q k aw (ix3 6 r l) + e9 q k aw (ix3 4 r l) + e11 q k aw (ix3 5 r l) + e15 q k aw (ix3 1 r l) + e16 q k aw (ix3 0 r l) + e17 q k aw (ix3 14 r l) + e18 q k aw (ix3 14 r l) := by
    unfold den14 vsum pick4 pick5 pick7 pick8 pick9 pick10 pick17
    simp only [List.foldl_cons, List.foldl_nil]
    pointwise
  rw [h, den, sum_adj14]
  simp only [e7_at, e8_at, e9_at, e11_at, e15_at, e16_at, e17_at, e18_at]
  rfl

theorem acc14_at (r : Fin 144) (l : Fin 128) : acc14 q k aw v (ix2 r l) = ∑ j, if adj 14 j then z (SK q k aw r l) 14 j * v (ix3 j r l) else 0 := by
  have h : acc14 q k aw v (ix2 r l) = e7 q k aw (ix3 6 r l) * v (ix3 7 r l) + e8 q k aw (ix3 6 r l) * v (ix3 8 r l) + e9 q k aw (ix3 4 r l) * v (ix3 9 r l) + e11 q k aw (ix3 5 r l) * v (ix3 11 r l) + e15 q k aw (ix3 1 r l) * v (ix3 15 r l) + e16 q k aw (ix3 0 r l) * v (ix3 16 r l) + e17 q k aw (ix3 14 r l) * v (ix3 17 r l) + e18 q k aw (ix3 14 r l) * v (ix3 18 r l) := by
    unfold acc14 vsum vnode pick4 pick5 pick7 pick8 pick9 pick10 pick17
    simp only [List.foldl_cons, List.foldl_nil]
    pointwise
  rw [h, sum_adj14 fun j => z (SK q k aw r l) 14 j * v (ix3 j r l)]
  simp only [e7_at, e8_at, e9_at, e11_at, e15_at, e16_at, e17_at, e18_at]
  rfl

theorem sum_adj15 (f : Fin 19 → EReal) : (∑ j, if adj 15 j then f j else 0) = f 8 + f 14 + f 16 + f 17 + f 18 := by
  rw [sum19]
  simp (decide := true) only [↓reduceIte, add_zero, zero_add]

theorem den15_at (r : Fin 144) (l : Fin 128) : den15 q k aw (ix2 r l) = den (SK q k aw r l) 15 := by
  have h : den15 q k aw (ix2 r l) = e8 q k aw (ix3 7 r l) + e14 q k aw (ix3 4 r l) + e16 q k aw (ix3 1 r l) + e17 q k aw (ix3 15 r l) + e18 q k aw (ix3 15 r l) := by
    unfold den15 vsum pick4 pick8 pick10 pick17
    simp only [List.foldl_cons, List.foldl_nil]
    pointwise
  rw [h, den, sum_adj15]
  simp only [e8_at, e14_at, e16_at, e17_at, e18_at]
  rfl

theorem acc15_at (r : Fin 144) (l : Fin 128) : acc15 q k aw v (ix2 r l) = ∑ j, if adj 15 j then z (SK q k aw r l) 15 j * v (ix3 j r l) else 0 := by
  have h : acc15 q k aw v (ix2 r l) = e8 q k aw (ix3 7 r l) * v (ix3 8 r l) + e14 q k aw (ix3 4 r l) * v (ix3 14 r l) + e16 q k aw (ix3 1 r l) * v (ix3 16 r l) + e17 q k aw (ix3 15 r l) * v (ix3 17 r l) + e18 q k aw (ix3 15 r l) * v (ix3 18 r l) := by
    unfold acc15 vsum vnode pick4 pick8 pick10 pick17
    simp only [List.foldl_cons, List.foldl_nil]
    pointwise
  rw [h, sum_adj15 fun j => z (SK q k aw r l) 15 j * v (ix3 j r l)]
  simp only [e8_at, e14_at, e16_at, e17_at, e18_at]
  rfl

theorem sum_adj16 (f : Fin 19 → EReal) : (∑ j, if adj 16 j then f j else 0) = f 14 + f 15 + f 17 + f 18 := by
  rw [sum19]
  simp (decide := true) only [↓reduceIte, add_zero, zero_add]

theorem den16_at (r : Fin 144) (l : Fin 128) : den16 q k aw (ix2 r l) = den (SK q k aw r l) 16 := by
  have h : den16 q k aw (ix2 r l) = e14 q k aw (ix3 5 r l) + e15 q k aw (ix3 2 r l) + e17 q k aw (ix3 16 r l) + e18 q k aw (ix3 16 r l) := by
    unfold den16 vsum pick5 pick8 pick17
    simp only [List.foldl_cons, List.foldl_nil]
    pointwise
  rw [h, den, sum_adj16]
  simp only [e14_at, e15_at, e17_at, e18_at]
  rfl

theorem acc16_at (r : Fin 144) (l : Fin 128) : acc16 q k aw v (ix2 r l) = ∑ j, if adj 16 j then z (SK q k aw r l) 16 j * v (ix3 j r l) else 0 := by
  have h : acc16 q k aw v (ix2 r l) = e14 q k aw (ix3 5 r l) * v (ix3 14 r l) + e15 q k aw (ix3 2 r l) * v (ix3 15 r l) + e17 q k aw (ix3 16 r l) * v (ix3 17 r l) + e18 q k aw (ix3 16 r l) * v (ix3 18 r l) := by
    unfold acc16 vsum vnode pick5 pick8 pick17
    simp only [List.foldl_cons, List.foldl_nil]
    pointwise
  rw [h, sum_adj16 fun j => z (SK q k aw r l) 16 j * v (ix3 j r l)]
  simp only [e14_at, e15_at, e17_at, e18_at]
  rfl

theorem sum_adj17 (f : Fin 19 → EReal) : (∑ j, if adj 17 j then f j else 0) = f 0 + f 1 + f 2 + f 3 + f 4 + f 5 + f 6 + f 7 + f 8 + f 9 + f 10 + f 11 + f 12 + f 13 + f 14 + f 15 + f 16 := by
  rw [sum19]
  simp (decide := true) only [↓reduceIte, add_zero, zero_add]

theorem den17_at (r : Fin 144) (l : Fin 128) : den17 q k aw (ix2 r l) = den (SK q k aw r l) 17 := by
  have h : den17 q k aw (ix2 r l) = e0 q k aw (ix3 6 r l) + e1 q k aw (ix3 5 r l) + e2 q k aw (ix3 3 r l) + e3 q k aw (ix3 2 r l) + e4 q k aw (ix3 5 r l) + e5 q k aw (ix3 3 r l) + e6 q k aw (ix3 2 r l) + e7 q k aw (ix3 7 r l) + e8 q k aw (ix3 8 r l) + e9 q k aw (ix3 5 r l) + e10 q k aw (ix3 2 r l) + e11 q k aw (ix3 6 r l) + e12 q k aw (ix3 3 r l) + e13 q k aw (ix3 2 r l) + e14 q k aw (ix3 6 r l) + e15 q k aw (ix3 3 r l) + e16 q k aw (ix3 2 r l) := by
    unfold den17 vsum pick4 pick5 pick7 pick8 pick9 pick10
    simp only [List.foldl_cons, List.foldl_nil]
    pointwise
  rw [h, den, sum_adj17]
  simp only [e0_at, e1_at, e2_at, e3_at, e4_at, e5_at, e6_at, e7_at, e8_at, e9_at, e10_at, e11_at, e12_at, e13_at, e14_at, e15_at, e16_at]
  rfl

theorem acc17_at (r : Fin 144) (l : Fin 128) : acc17 q k aw v (ix2 r l) = ∑ j, if adj 17 j then z (SK q k aw r l) 17 j * v (ix3 j r l) else 0 := by
  have h : acc17 q k aw v (ix2 r l) = e0 q k aw (ix3 6 r l) * v (ix3 0 r l) + e1 q k aw (ix3 5 r l) * v (ix3 1 r l) + e2 q k aw (ix3 3 r l) * v (ix3 2 r l) + e3 q k aw (ix3 2 r l) * v (ix3 3 r l) + e4 q k aw (ix3 5 r l) * v (ix3 4 r l) + e5 q k aw (ix3 3 r l) * v (ix3 5 r l) + e6 q k aw (ix3 2 r l) * v (ix3 6 r l) + e7 q k aw (ix3 7 r l) * v (ix3 7 r l) + e8 q k aw (ix3 8 r l) * v (ix3 8 r l) + e9 q k aw (ix3 5 r l) * v (ix3 9 r l) + e10 q k aw (ix3 2 r l) * v (ix3 10 r l) + e11 q k aw (ix3 6 r l) * v (ix3 11 r l) + e12 q k aw (ix3 3 r l) * v (ix3 12 r l) + e13 q k aw (ix3 2 r l) * v (ix3 13 r l) + e14 q k aw (ix3 6 r l) * v (ix3 14 r l) + e15 q k aw (ix3 3 r l) * v (ix3 15 r l) + e16 q k aw (ix3 2 r l) * v (ix3 16 r l) := by
    unfold acc17 vsum vnode pick4 pick5 pick7 pick8 pick9 pick10
    simp only [List.foldl_cons, List.foldl_nil]
    pointwise
  rw [h, sum_adj17 fun j => z (SK q k aw r l) 17 j * v (ix3 j r l)]
  simp only [e0_at, e1_at, e2_at, e3_at, e4_at, e5_at, e6_at, e7_at, e8_at, e9_at, e10_at, e11_at, e12_at, e13_at, e14_at, e15_at, e16_at]
  rfl

theorem sum_adj18 (f : Fin 19 → EReal) : (∑ j, if adj 18 j then f j else 0) = f 0 + f 1 + f 2 + f 3 + f 4 + f 5 + f 6 + f 7 + f 8 + f 9 + f 10 + f 11 + f 12 + f 13 + f 14 + f 15 + f 16 := by
  rw [sum19]
  simp (decide := true) only [↓reduceIte, add_zero, zero_add]

theorem den18_at (r : Fin 144) (l : Fin 128) : den18 q k aw (ix2 r l) = den (SK q k aw r l) 18 := by
  have h : den18 q k aw (ix2 r l) = e0 q k aw (ix3 7 r l) + e1 q k aw (ix3 6 r l) + e2 q k aw (ix3 4 r l) + e3 q k aw (ix3 3 r l) + e4 q k aw (ix3 6 r l) + e5 q k aw (ix3 4 r l) + e6 q k aw (ix3 3 r l) + e7 q k aw (ix3 8 r l) + e8 q k aw (ix3 9 r l) + e9 q k aw (ix3 6 r l) + e10 q k aw (ix3 3 r l) + e11 q k aw (ix3 7 r l) + e12 q k aw (ix3 4 r l) + e13 q k aw (ix3 3 r l) + e14 q k aw (ix3 7 r l) + e15 q k aw (ix3 4 r l) + e16 q k aw (ix3 3 r l) := by
    unfold den18 vsum pick4 pick5 pick7 pick8 pick9 pick10
    simp only [List.foldl_cons, List.foldl_nil]
    pointwise
  rw [h, den, sum_adj18]
  simp only [e0_at, e1_at, e2_at, e3_at, e4_at, e5_at, e6_at, e7_at, e8_at, e9_at, e10_at, e11_at, e12_at, e13_at, e14_at, e15_at, e16_at]
  rfl

theorem acc18_at (r : Fin 144) (l : Fin 128) : acc18 q k aw v (ix2 r l) = ∑ j, if adj 18 j then z (SK q k aw r l) 18 j * v (ix3 j r l) else 0 := by
  have h : acc18 q k aw v (ix2 r l) = e0 q k aw (ix3 7 r l) * v (ix3 0 r l) + e1 q k aw (ix3 6 r l) * v (ix3 1 r l) + e2 q k aw (ix3 4 r l) * v (ix3 2 r l) + e3 q k aw (ix3 3 r l) * v (ix3 3 r l) + e4 q k aw (ix3 6 r l) * v (ix3 4 r l) + e5 q k aw (ix3 4 r l) * v (ix3 5 r l) + e6 q k aw (ix3 3 r l) * v (ix3 6 r l) + e7 q k aw (ix3 8 r l) * v (ix3 7 r l) + e8 q k aw (ix3 9 r l) * v (ix3 8 r l) + e9 q k aw (ix3 6 r l) * v (ix3 9 r l) + e10 q k aw (ix3 3 r l) * v (ix3 10 r l) + e11 q k aw (ix3 7 r l) * v (ix3 11 r l) + e12 q k aw (ix3 4 r l) * v (ix3 12 r l) + e13 q k aw (ix3 3 r l) * v (ix3 13 r l) + e14 q k aw (ix3 7 r l) * v (ix3 14 r l) + e15 q k aw (ix3 4 r l) * v (ix3 15 r l) + e16 q k aw (ix3 3 r l) * v (ix3 16 r l) := by
    unfold acc18 vsum vnode pick4 pick5 pick7 pick8 pick9 pick10
    simp only [List.foldl_cons, List.foldl_nil]
    pointwise
  rw [h, sum_adj18 fun j => z (SK q k aw r l) 18 j * v (ix3 j r l)]
  simp only [e0_at, e1_at, e2_at, e3_at, e4_at, e5_at, e6_at, e7_at, e8_at, e9_at, e10_at, e11_at, e12_at, e13_at, e14_at, e15_at, e16_at]
  rfl

/-- Nineteen boxes of one row side by side, read at an index. -/
theorem cat19 (f : Fin 19 → FVec Ideal S1x144x128 .f32)
    (h : Shape.Concatenates ((List.ofFn fun n : Fin 19 => (⟨S1x144x128, f n⟩ : (s : Shape) × (s.Idx → Ideal .f32))).map (·.1)) S19x144x128 0)
    (x : Fin 19) (r : Fin 144) (l : Fin 128) :
    concatenate S19x144x128 0 (List.ofFn fun n : Fin 19 => (⟨S1x144x128, f n⟩ : (s : Shape) × (s.Idx → Ideal .f32))) h (ix3 x r l) = f x (ix3 0 r l) := by
  refine concatenate_ofFn_apply 0 f h rfl 1 rfl (ix3 x r l) x (Nat.div_one _) (ix3 0 r l) (Nat.mod_one _).symm fun b hb => ?_
  fin_cases b
  · exact absurd rfl hb
  · rfl
  · rfl

theorem box_at (v : FVec Ideal S144x128 .f32) (r : Fin 144) (l : Fin 128) : box v (ix3 0 r l) = v (ix2 r l) := by
  unfold box; pointwise

/-- The boxes of nineteen rows side by side, read at an index. -/
theorem cat19_box (a0 a1 a2 a3 a4 a5 a6 a7 a8 a9 a10 a11 a12 a13 a14 a15 a16 a17 a18 : FVec Ideal S144x128 .f32)
    (h : Shape.Concatenates (([⟨S1x144x128, box a0⟩, ⟨S1x144x128, box a1⟩, ⟨S1x144x128, box a2⟩, ⟨S1x144x128, box a3⟩, ⟨S1x144x128, box a4⟩, ⟨S1x144x128, box a5⟩, ⟨S1x144x128, box a6⟩, ⟨S1x144x128, box a7⟩, ⟨S1x144x128, box a8⟩, ⟨S1x144x128, box a9⟩, ⟨S1x144x128, box a10⟩, ⟨S1x144x128, box a11⟩, ⟨S1x144x128, box a12⟩, ⟨S1x144x128, box a13⟩, ⟨S1x144x128, box a14⟩, ⟨S1x144x128, box a15⟩, ⟨S1x144x128, box a16⟩, ⟨S1x144x128, box a17⟩, ⟨S1x144x128, box a18⟩] : List ((s : Shape) × (s.Idx → Ideal .f32))).map (·.1)) S19x144x128 0)
    (n : Fin 19) (r : Fin 144) (l : Fin 128) :
    concatenate S19x144x128 0 [⟨S1x144x128, box a0⟩, ⟨S1x144x128, box a1⟩, ⟨S1x144x128, box a2⟩, ⟨S1x144x128, box a3⟩, ⟨S1x144x128, box a4⟩, ⟨S1x144x128, box a5⟩, ⟨S1x144x128, box a6⟩, ⟨S1x144x128, box a7⟩, ⟨S1x144x128, box a8⟩, ⟨S1x144x128, box a9⟩, ⟨S1x144x128, box a10⟩, ⟨S1x144x128, box a11⟩, ⟨S1x144x128, box a12⟩, ⟨S1x144x128, box a13⟩, ⟨S1x144x128, box a14⟩, ⟨S1x144x128, box a15⟩, ⟨S1x144x128, box a16⟩, ⟨S1x144x128, box a17⟩, ⟨S1x144x128, box a18⟩] h (ix3 n r l) = (![a0, a1, a2, a3, a4, a5, a6, a7, a8, a9, a10, a11, a12, a13, a14, a15, a16, a17, a18] : Fin 19 → FVec Ideal S144x128 .f32) n (ix2 r l) :=
  (cat19 (fun n => box ((![a0, a1, a2, a3, a4, a5, a6, a7, a8, a9, a10, a11, a12, a13, a14, a15, a16, a17, a18] : Fin 19 → FVec Ideal S144x128 .f32) n)) h n r l).trans (box_at _ r l)

theorem denAll_at (n : Fin 19) (r : Fin 144) (l : Fin 128) : denAll q k aw (ix3 n r l) = den (SK q k aw r l) n := by
  unfold denAll
  rw [cat19_box]
  have h0 := den0_at q k aw r l
  have h1 := den1_at q k aw r l
  have h2 := den2_at q k aw r l
  have h3 := den3_at q k aw r l
  have h4 := den4_at q k aw r l
  have h5 := den5_at q k aw r l
  have h6 := den6_at q k aw r l
  have h7 := den7_at q k aw r l
  have h8 := den8_at q k aw r l
  have h9 := den9_at q k aw r l
  have h10 := den10_at q k aw r l
  have h11 := den11_at q k aw r l
  have h12 := den12_at q k aw r l
  have h13 := den13_at q k aw r l
  have h14 := den14_at q k aw r l
  have h15 := den15_at q k aw r l
  have h16 := den16_at q k aw r l
  have h17 := den17_at q k aw r l
  have h18 := den18_at q k aw r l
  generalize den0 q k aw = a0 at h0 ⊢
  generalize den1 q k aw = a1 at h1 ⊢
  generalize den2 q k aw = a2 at h2 ⊢
  generalize den3 q k aw = a3 at h3 ⊢
  generalize den4 q k aw = a4 at h4 ⊢
  generalize den5 q k aw = a5 at h5 ⊢
  generalize den6 q k aw = a6 at h6 ⊢
  generalize den7 q k aw = a7 at h7 ⊢
  generalize den8 q k aw = a8 at h8 ⊢
  generalize den9 q k aw = a9 at h9 ⊢
  generalize den10 q k aw = a10 at h10 ⊢
  generalize den11 q k aw = a11 at h11 ⊢
  generalize den12 q k aw = a12 at h12 ⊢
  generalize den13 q k aw = a13 at h13 ⊢
  generalize den14 q k aw = a14 at h14 ⊢
  generalize den15 q k aw = a15 at h15 ⊢
  generalize den16 q k aw = a16 at h16 ⊢
  generalize den17 q k aw = a17 at h17 ⊢
  generalize den18 q k aw = a18 at h18 ⊢
  fin_cases n
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18

theorem accAll_at (n : Fin 19) (r : Fin 144) (l : Fin 128) :
    accAll q k aw v (ix3 n r l) = ∑ j, if adj n j then z (SK q k aw r l) n j * v (ix3 j r l) else 0 := by
  unfold accAll
  rw [cat19_box]
  have h0 := acc0_at q k aw v r l
  have h1 := acc1_at q k aw v r l
  have h2 := acc2_at q k aw v r l
  have h3 := acc3_at q k aw v r l
  have h4 := acc4_at q k aw v r l
  have h5 := acc5_at q k aw v r l
  have h6 := acc6_at q k aw v r l
  have h7 := acc7_at q k aw v r l
  have h8 := acc8_at q k aw v r l
  have h9 := acc9_at q k aw v r l
  have h10 := acc10_at q k aw v r l
  have h11 := acc11_at q k aw v r l
  have h12 := acc12_at q k aw v r l
  have h13 := acc13_at q k aw v r l
  have h14 := acc14_at q k aw v r l
  have h15 := acc15_at q k aw v r l
  have h16 := acc16_at q k aw v r l
  have h17 := acc17_at q k aw v r l
  have h18 := acc18_at q k aw v r l
  generalize acc0 q k aw v = a0 at h0 ⊢
  generalize acc1 q k aw v = a1 at h1 ⊢
  generalize acc2 q k aw v = a2 at h2 ⊢
  generalize acc3 q k aw v = a3 at h3 ⊢
  generalize acc4 q k aw v = a4 at h4 ⊢
  generalize acc5 q k aw v = a5 at h5 ⊢
  generalize acc6 q k aw v = a6 at h6 ⊢
  generalize acc7 q k aw v = a7 at h7 ⊢
  generalize acc8 q k aw v = a8 at h8 ⊢
  generalize acc9 q k aw v = a9 at h9 ⊢
  generalize acc10 q k aw v = a10 at h10 ⊢
  generalize acc11 q k aw v = a11 at h11 ⊢
  generalize acc12 q k aw v = a12 at h12 ⊢
  generalize acc13 q k aw v = a13 at h13 ⊢
  generalize acc14 q k aw v = a14 at h14 ⊢
  generalize acc15 q k aw v = a15 at h15 ⊢
  generalize acc16 q k aw v = a16 at h16 ⊢
  generalize acc17 q k aw v = a17 at h17 ⊢
  generalize acc18 q k aw v = a18 at h18 ⊢
  fin_cases n
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18

end Cert.KernelIdeal.Model

end
-- ==== Proof.Layer.lean ====
/- The whole network at one position, written on plain functions of the node and the channel. -/
module

public import proofs.«01_k».proof.Proof.Spec

@[expose] public section

noncomputable section

namespace Cert.Row

open Idealize.ShloMosaic

/-- One graph layer's weights. -/
structure Wts where
  l1 : Fin 128 → Fin 256 → EReal
  b1 : Fin 128 → EReal
  qw : Fin 768 → Fin 128 → EReal
  aw : Fin 32 → EReal
  l2 : Fin 256 → Fin 128 → EReal
  b2 : Fin 256 → EReal

/-- The softplus. -/
def spl (t : EReal) : EReal := max t 0 + Ideal.log1p (Ideal.exp (0 - FloatOps.absf (F := Ideal) (φ := .f32) t))

/-- What is added to a sum of weights before dividing by it. -/
def eps : EReal := Ideal.ofBits .f32 0x2EDBE6FF#32

/-- What is added to a variance before its root is taken. -/
def epsv : EReal := Ideal.ofBits .f32 0x3727C5AC#32

variable (p : Wts) (X : Fin 19 → Fin 256 → EReal)

/-- The queries, keys and values of a node, all heads side by side, 96 columns a head. -/
def qkv (i : Fin 19) (o : Fin 768) : EReal := ∑ c, (∑ f, X i f * p.l1 c f + p.b1 c) * p.qw o c

/-- One head's score of the edge from `i` to `j`. -/
def score (h : Fin 8) (i j : Fin 19) : EReal :=
  ∑ a : Fin 32, spl (qkv p X i ⟨h.val * 96 + a.val, by omega⟩ + qkv p X j ⟨h.val * 96 + (32 + a.val), by omega⟩) * p.aw a

/-- One head's output at a node: its own value and the weighted mean of its neighbours'. -/
def attn (h : Fin 8) (d : Fin 16) (i : Fin 19) : EReal :=
  qkv p X i ⟨h.val * 96 + (64 + d.val), by omega⟩
    + outK (score p X h) eps (fun j => qkv p X j ⟨h.val * 96 + (80 + d.val), by omega⟩) i

/-- One graph layer. -/
def conv (i : Fin 19) (c : Fin 256) : EReal :=
  ∑ l : Fin 128, attn p X ⟨l.val / 16, by omega⟩ ⟨l.val % 16, by omega⟩ i * p.l2 c l + p.b2 c

/-- A row's mean. -/
def mu (x : Fin 256 → EReal) : EReal := Ideal.div (∑ f, x f) (Ideal.ofBits .f32 0x43800000#32)

/-- The layer norm of a row. -/
def lnrm (g b x : Fin 256 → EReal) (c : Fin 256) : EReal :=
  (x c - mu x) * Ideal.rsqrt (mu (fun f => (x f - mu x) * (x f - mu x)) + epsv) * g c + b c

/-- The 17 nodes with a zero node and their mean appended. -/
def nodes (x : Fin 17 → Fin 256 → EReal) (n : Fin 19) (f : Fin 256) : EReal :=
  if h : n.val < 17 then x ⟨n.val, h⟩ f else if n.val = 17 then 0 else Ideal.div (∑ m, x m f) (Ideal.ofBits .f32 0x41880000#32)

/-- The two layers with the norm between them. -/
def net (p q : Wts) (g b : Fin 256 → EReal) (x : Fin 17 → Fin 256 → EReal) : Fin 19 → Fin 256 → EReal :=
  conv q fun n => lnrm g b (conv p (nodes x) n)

theorem eps_pos : ∃ r : ℝ, 0 < r ∧ eps = r := by
  refine ⟨14411519 * (2 ^ 57)⁻¹, by positivity, ?_⟩
  unfold eps; simp [Ideal.ofBits, Ideal.ieee]

theorem epsv_pos : 0 < epsv := by
  have h : epsv = ((10995116 * (2 ^ 40)⁻¹ : ℝ) : EReal) := by
    unfold epsv; simp [Ideal.ofBits, Ideal.ieee]
  rw [h]
  exact_mod_cast (by positivity : (0 : ℝ) < 10995116 * (2 ^ 40)⁻¹)

theorem rows_pos : ∃ r : ℝ, 0 < r ∧ Ideal.ofBits .f32 0x43800000#32 = r := by
  refine ⟨8388608 * (2 ^ 15)⁻¹, by positivity, ?_⟩
  simp [Ideal.ofBits, Ideal.ieee]

theorem mu_nonneg (x : Fin 256 → EReal) (h : ∀ f, 0 ≤ x f) : 0 ≤ mu x := by
  obtain ⟨r, hr, e⟩ := rows_pos
  have hr0 : ((r : ℝ) : EReal) ≠ 0 := by exact_mod_cast hr.ne'
  unfold mu Ideal.div
  rw [e, if_neg hr0]
  exact mul_nonneg (Finset.sum_nonneg fun f _ => h f) (EReal.inv_nonneg_of_nonneg (by exact_mod_cast hr.le))

/-- The norm divides by the root, the form in which the mathematics has it. -/
theorem lnrm_eq (g b x : Fin 256 → EReal) (c : Fin 256) :
    lnrm g b x c = Ideal.div (x c - mu x) (Ideal.sqrt (mu (fun f => (x f - mu x) * (x f - mu x)) + epsv)) * g c + b c := by
  unfold lnrm
  rw [mul_rsqrt]
  exact lt_of_lt_of_le epsv_pos (le_add_of_nonneg_left (mu_nonneg _ fun f => mul_self_nonneg' _))

end Cert.Row

end
-- ==== Proof.Rows.lean ====
/- One graph layer of the kernel read at a row: the layer of the position the row belongs to. -/
module

public import proofs.«01_k».proof.Proof.Sums
public import proofs.«01_k».proof.Proof.Layer

@[expose] public section

set_option maxRecDepth 16384

noncomputable section

namespace Cert.KernelIdeal.Model

open Idealize.ShloMosaic Idealize.SL.Sem Cert.KernelIdeal Cert.KernelIdeal.Gen Cert.Row

/-- Row `n * 144 + r` of the node-major rows. -/
abbrev rw1 (n : Fin 19) (r : Fin 144) : Fin 2736 := ⟨n.val * 144 + r.val, by omega⟩

/-- Where the packed projection's column stands among the weight's rows. -/
def perm (o : Fin 768) : Fin 768 :=
  if h : o.val < 256 then ⟨o.val / 32 * 96 + o.val % 32, by omega⟩
  else if h : o.val < 512 then ⟨(o.val - 256) / 32 * 96 + (32 + (o.val - 256) % 32), by omega⟩
  else if h : o.val < 640 then ⟨(o.val - 512) / 16 * 96 + (64 + (o.val - 512) % 16), by omega⟩
  else ⟨(o.val - 640) / 16 * 96 + (80 + (o.val - 640) % 16), by omega⟩

theorem lin_at (h : FVec Ideal S2736x256 .f32) (w1 : FVec Ideal S256x128 .f32) (b1 : FVec Ideal S1x128 .f32) (wq : FVec Ideal S128x768 .f32)
    (r : Fin 2736) (o : Fin 768) :
    lin h w1 b1 wq (ix2 r o) = ∑ c, (∑ f, h (ix2 r f) * w1 (ix2 f c) + b1 (ix2 0 c)) * wq (ix2 c o) := by
  unfold lin; pointwise

theorem qOf_at (p : FVec Ideal S2736x768 .f32) (n : Fin 19) (r : Fin 144) (l : Fin 256) :
    qOf p (ix3 n r l) = p (ix2 (rw1 n r) ⟨l.val, by omega⟩) := by
  unfold qOf; pointwise

theorem kOf_at (p : FVec Ideal S2736x768 .f32) (n : Fin 19) (r : Fin 144) (l : Fin 256) :
    kOf p (ix3 n r l) = p (ix2 (rw1 n r) ⟨256 + l.val, by omega⟩) := by
  unfold kOf; pointwise

theorem v1Of_at (p : FVec Ideal S2736x768 .f32) (r : Fin 2736) (l : Fin 128) :
    v1Of p (ix2 r l) = p (ix2 r ⟨512 + l.val, by omega⟩) := by
  unfold v1Of; pointwise

theorem v2Of_at (p : FVec Ideal S2736x768 .f32) (n : Fin 19) (r : Fin 144) (l : Fin 128) :
    v2Of p (ix3 n r l) = p (ix2 (rw1 n r) ⟨640 + l.val, by omega⟩) := by
  unfold v2Of; pointwise

theorem att_at (q k : FVec Ideal S19x144x256 .f32) (v1 : FVec Ideal S2736x128 .f32) (v2 : FVec Ideal S19x144x128 .f32)
    (aw : FVec Ideal S256x128 .f32) (w2 : FVec Ideal S128x256 .f32) (b2 : FVec Ideal S1x256 .f32) (n : Fin 19) (r : Fin 144) (c : Fin 256) :
    att q k v1 v2 aw w2 b2 (ix2 (rw1 n r) c)
      = ∑ l : Fin 128, (v1 (ix2 (rw1 n r) l) + Ideal.div (accAll q k aw v2 (ix3 n r l)) (denAll q k aw (ix3 n r l) + eps)) * w2 (ix2 l c) + b2 (ix2 0 c) := by
  unfold att
  generalize accAll q k aw v2 = A
  generalize denAll q k aw = D
  pointwise
  have e1 : ∀ h, (⟨(n.val * 144 + r.val) / 144, h⟩ : Fin 19) = n := fun h => Fin.ext (by show (n.val * 144 + r.val) / 144 = n.val; omega)
  have e2 : ∀ h, (⟨(n.val * 144 + r.val) % 144, h⟩ : Fin 144) = r := fun h => Fin.ext (by show (n.val * 144 + r.val) % 144 = r.val; omega)
  simp only [e1, e2]
  rfl

/-- A sum over a lane's 256 products against a matrix that is zero off the lane's head is the sum over that head's 32. -/
theorem sum_head (F : Fin 256 → EReal) (A : Fin 32 → EReal) (h : Fin 8) :
    ∑ f : Fin 256, F f * (if f.val / 32 = h.val then A ⟨f.val % 32, Nat.mod_lt _ (by norm_num)⟩ else 0)
      = ∑ a : Fin 32, F ⟨h.val * 32 + a.val, by omega⟩ * A a := by
  have e := (Equiv.sum_comp (finProdFinEquiv : Fin 8 × Fin 32 ≃ Fin 256)
    fun f : Fin 256 => F f * (if f.val / 32 = h.val then A ⟨f.val % 32, Nat.mod_lt _ (by norm_num)⟩ else 0)).symm
  rw [e, Fintype.sum_prod_type, Finset.sum_eq_single h]
  · refine Finset.sum_congr rfl fun a _ => ?_
    have h1 : (finProdFinEquiv (h, a)).val = h.val * 32 + a.val := by
      simp [finProdFinEquiv]; omega
    rw [if_pos (by rw [h1]; omega)]
    congr 2
    · exact Fin.ext h1
    · exact Fin.ext (by show (finProdFinEquiv (h, a)).val % 32 = _; rw [h1]; omega)
  · intro b _ hb
    refine Finset.sum_eq_zero fun a _ => ?_
    have h1 : (finProdFinEquiv (b, a)).val = b.val * 32 + a.val := by
      simp [finProdFinEquiv]; omega
    rw [if_neg (by rw [h1]; have := Fin.val_ne_of_ne hb; omega), mul_zero]
  · intro hh; exact absurd (Finset.mem_univ _) hh

theorem perm_q (h : Fin 8) (a : Fin 32) : perm ⟨h.val * 32 + a.val, by omega⟩ = ⟨h.val * 96 + a.val, by omega⟩ := by
  unfold perm
  rw [dif_pos (by show h.val * 32 + a.val < 256; omega)]
  exact Fin.ext (by show (h.val * 32 + a.val) / 32 * 96 + (h.val * 32 + a.val) % 32 = h.val * 96 + a.val; omega)

theorem perm_k (h : Fin 8) (a : Fin 32) : perm ⟨256 + (h.val * 32 + a.val), by omega⟩ = ⟨h.val * 96 + (32 + a.val), by omega⟩ := by
  unfold perm
  rw [dif_neg (by show ¬ 256 + (h.val * 32 + a.val) < 256; omega), dif_pos (by show 256 + (h.val * 32 + a.val) < 512; omega)]
  exact Fin.ext (by show (256 + (h.val * 32 + a.val) - 256) / 32 * 96 + (32 + (256 + (h.val * 32 + a.val) - 256) % 32) = h.val * 96 + (32 + a.val); omega)

theorem perm_v1 (l : Fin 128) : perm ⟨512 + l.val, by omega⟩ = ⟨l.val / 16 * 96 + (64 + l.val % 16), by omega⟩ := by
  unfold perm
  rw [dif_neg (by show ¬ 512 + l.val < 256; omega), dif_neg (by show ¬ 512 + l.val < 512; omega), dif_pos (by show 512 + l.val < 640; omega)]
  exact Fin.ext (by show (512 + l.val - 512) / 16 * 96 + (64 + (512 + l.val - 512) % 16) = l.val / 16 * 96 + (64 + l.val % 16); omega)

theorem perm_v2 (l : Fin 128) : perm ⟨640 + l.val, by omega⟩ = ⟨l.val / 16 * 96 + (80 + l.val % 16), by omega⟩ := by
  unfold perm
  rw [dif_neg (by show ¬ 640 + l.val < 256; omega), dif_neg (by show ¬ 640 + l.val < 512; omega), dif_neg (by show ¬ 640 + l.val < 640; omega)]
  exact Fin.ext (by show (640 + l.val - 640) / 16 * 96 + (80 + (640 + l.val - 640) % 16) = l.val / 16 * 96 + (80 + l.val % 16); omega)

theorem gconv_at (p : Wts) (h : FVec Ideal S2736x256 .f32) (w1 : FVec Ideal S256x128 .f32) (b1 : FVec Ideal S1x128 .f32) (wq : FVec Ideal S128x768 .f32)
    (aw : FVec Ideal S256x128 .f32) (w2 : FVec Ideal S128x256 .f32) (b2 : FVec Ideal S1x256 .f32)
    (hw1 : ∀ f c, w1 (ix2 f c) = p.l1 c f) (hb1 : ∀ c, b1 (ix2 0 c) = p.b1 c) (hq : ∀ c o, wq (ix2 c o) = p.qw (perm o) c)
    (ha : ∀ (f : Fin 256) (l : Fin 128), aw (ix2 f l) = if f.val / 32 = l.val / 16 then p.aw ⟨f.val % 32, Nat.mod_lt _ (by norm_num)⟩ else 0)
    (hw2 : ∀ l c, w2 (ix2 l c) = p.l2 c l) (hb2 : ∀ c, b2 (ix2 0 c) = p.b2 c) (n : Fin 19) (r : Fin 144) (c : Fin 256) :
    gconv h w1 b1 wq aw w2 b2 (ix2 (rw1 n r) c) = conv p (fun n f => h (ix2 (rw1 n r) f)) n c := by
  have hl : ∀ (n : Fin 19) (o : Fin 768), lin h w1 b1 wq (ix2 (rw1 n r) o) = qkv p (fun n f => h (ix2 (rw1 n r) f)) n (perm o) := by
    intro n o
    rw [lin_at]; unfold qkv
    simp only [hw1, hb1, hq]
  unfold gconv
  generalize lin h w1 b1 wq = L at hl ⊢
  generalize (fun n f => h (ix2 (rw1 n r) f)) = X at hl ⊢
  rw [att_at, hb2]
  unfold conv
  refine congrArg (· + p.b2 c) (Finset.sum_congr rfl fun l _ => ?_)
  have hS : SK (qOf L) (kOf L) aw r l = score p X ⟨l.val / 16, by omega⟩ := by
    funext i j
    unfold SK score
    simp only [qOf_at, kOf_at, hl, ha]
    rw [sum_head (fun f => spK (qkv p X i (perm ⟨f.val, by omega⟩) + qkv p X j (perm ⟨256 + f.val, by omega⟩))) p.aw ⟨l.val / 16, by omega⟩]
    refine Finset.sum_congr rfl fun a _ => ?_
    rw [perm_q ⟨l.val / 16, by omega⟩ a, perm_k ⟨l.val / 16, by omega⟩ a]
    rfl
  rw [accAll_at, denAll_at, hS, hw2, v1Of_at, hl, perm_v1]
  simp only [v2Of_at, hl, perm_v2]
  rfl

theorem mean_at (h : FVec Ideal S2736x256 .f32) (r : Fin 2736) : mean h (ix2 r 0) = mu fun f => h (ix2 r f) := by
  unfold mean; pointwise
  rfl

theorem lnorm_at (h : FVec Ideal S2736x256 .f32) (g b : FVec Ideal S1x256 .f32) (r : Fin 2736) (c : Fin 256) :
    lnorm h g b (ix2 r c) = lnrm (fun f => g (ix2 0 f)) (fun f => b (ix2 0 f)) (fun f => h (ix2 r f)) c := by
  have e : lnorm h g b (ix2 r c) = (h (ix2 r c) - mean h (ix2 r 0)) * Ideal.rsqrt (mean (mulf (subf h (broadcastTo S2736x256 (mean h) broadcasts_S2736x1_S2736x256))
      (subf h (broadcastTo S2736x256 (mean h) broadcasts_S2736x1_S2736x256))) (ix2 r 0) + epsv) * g (ix2 0 c) + b (ix2 0 c) := by
    unfold lnorm; pointwise
    rfl
  have d : ∀ f, mulf (subf h (broadcastTo S2736x256 (mean h) broadcasts_S2736x1_S2736x256))
      (subf h (broadcastTo S2736x256 (mean h) broadcasts_S2736x1_S2736x256)) (ix2 r f)
      = (h (ix2 r f) - mean h (ix2 r 0)) * (h (ix2 r f) - mean h (ix2 r 0)) := by
    intro f; pointwise
  rw [e, mean_at (mulf _ _)]
  simp only [d, mean_at]
  rfl

theorem prep_at (x : FVec Ideal S16x9x17x256 .f32) (n : Fin 19) (b : Fin 16) (i : Fin 9) (f : Fin 256) :
    prep x (ix2 (rw1 n ⟨b.val * 9 + i.val, by omega⟩) f) = nodes (fun m f => x (ix4 b i m f)) n f := by
  unfold prep; pointwise
  have e : (n.val * 144 + (b.val * 9 + i.val)) / 144 = n.val := by omega
  simp only [e]
  unfold nodes
  split
  · rfl
  · split
    · rw [if_pos (by omega)]
    · rw [if_neg (by omega)]

theorem fin_at (h : FVec Ideal S2736x256 .f32) (b : Fin 16) (i : Fin 9) (n : Fin 17) (c : Fin 256) :
    fin h (ix4 b i n c) = h (ix2 (rw1 ⟨n.val, by omega⟩ ⟨b.val * 9 + i.val, by omega⟩) c) := by
  unfold fin; pointwise

/-- The body's result at an index: the network at that position. -/
theorem fused_at (p q : Wts) (x0 : FVec Ideal S16x9x17x256 .f32) (x1 : FVec Ideal S256x128 .f32) (x2 : FVec Ideal S1x128 .f32) (x3 : FVec Ideal S128x768 .f32)
    (x4 : FVec Ideal S256x128 .f32) (x5 : FVec Ideal S128x256 .f32) (x6 x7 x8 : FVec Ideal S1x256 .f32)
    (x9 : FVec Ideal S256x128 .f32) (x10 : FVec Ideal S1x128 .f32) (x11 : FVec Ideal S128x768 .f32)
    (x12 : FVec Ideal S256x128 .f32) (x13 : FVec Ideal S128x256 .f32) (x14 : FVec Ideal S1x256 .f32)
    (h1 : ∀ f c, x1 (ix2 f c) = p.l1 c f) (h2 : ∀ c, x2 (ix2 0 c) = p.b1 c) (h3 : ∀ c o, x3 (ix2 c o) = p.qw (perm o) c)
    (h4 : ∀ (f : Fin 256) (l : Fin 128), x4 (ix2 f l) = if f.val / 32 = l.val / 16 then p.aw ⟨f.val % 32, Nat.mod_lt _ (by norm_num)⟩ else 0)
    (h5 : ∀ l c, x5 (ix2 l c) = p.l2 c l) (h6 : ∀ c, x6 (ix2 0 c) = p.b2 c)
    (h9 : ∀ f c, x9 (ix2 f c) = q.l1 c f) (h10 : ∀ c, x10 (ix2 0 c) = q.b1 c) (h11 : ∀ c o, x11 (ix2 c o) = q.qw (perm o) c)
    (h12 : ∀ (f : Fin 256) (l : Fin 128), x12 (ix2 f l) = if f.val / 32 = l.val / 16 then q.aw ⟨f.val % 32, Nat.mod_lt _ (by norm_num)⟩ else 0)
    (h13 : ∀ l c, x13 (ix2 l c) = q.l2 c l) (h14 : ∀ c, x14 (ix2 0 c) = q.b2 c)
    (b : Fin 16) (i : Fin 9) (n : Fin 17) (c : Fin 256) :
    fused x0 x1 x2 x3 x4 x5 x6 x7 x8 x9 x10 x11 x12 x13 x14 (ix4 b i n c)
      = net p q (fun f => x7 (ix2 0 f)) (fun f => x8 (ix2 0 f)) (fun m f => x0 (ix4 b i m f)) ⟨n.val, by omega⟩ c := by
  unfold fused
  rw [fin_at, gconv_at q _ _ _ _ _ _ _ h9 h10 h11 h12 h13 h14]
  unfold net
  congr 1
  funext n f
  rw [lnorm_at]
  congr 1
  funext c
  rw [gconv_at p _ _ _ _ _ _ _ h1 h2 h3 h4 h5 h6]
  congr 1
  funext m g
  rw [prep_at]

end Cert.KernelIdeal.Model

end
-- ==== Proof.Arrays.lean ====
/- The packing calls' arrays after their runs, as functions of the arrays they were entered with. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Model

open Idealize.ShloMosaic Idealize.ShloMosaic.TcCoe Idealize.SL.Sem Cert.KernelIdeal Cert.KernelIdeal.Gen Idealize.ShloMosaic.Pipeline Idealize.ShloMosaic.ValueKit

variable (V : (c : Dev nD) → (b : Ref sig .tc) → Buf (Elt Ideal) ((c : Thread nD τ).loc b))

theorem ix0_0 (t : Fin cfg0.N) : win0_0.index t = ![0, 0] := (by decide +kernel : ∀ t : Fin cfg0.N, win0_0.index t = ![0, 0]) t
theorem ix0_1 (t : Fin cfg0.N) : win0_1.index t = ![0, 0] := (by decide +kernel : ∀ t : Fin cfg0.N, win0_1.index t = ![0, 0]) t
theorem ix0_2 (t : Fin cfg0.N) : win0_2.index t = ![0, 0] := (by decide +kernel : ∀ t : Fin cfg0.N, win0_2.index t = ![0, 0]) t
theorem ix0_3 (t : Fin cfg0.N) : win0_3.index t = ![0, 0] := (by decide +kernel : ∀ t : Fin cfg0.N, win0_3.index t = ![0, 0]) t
theorem ix0_4 (t : Fin cfg0.N) : win0_4.index t = ![0, 0] := (by decide +kernel : ∀ t : Fin cfg0.N, win0_4.index t = ![0, 0]) t
theorem ix0_5 (t : Fin cfg0.N) : win0_5.index t = ![0, 0] := (by decide +kernel : ∀ t : Fin cfg0.N, win0_5.index t = ![0, 0]) t
theorem ix0_6 (t : Fin cfg0.N) : win0_6.index t = ![0, 0] := (by decide +kernel : ∀ t : Fin cfg0.N, win0_6.index t = ![0, 0]) t
theorem ix0_7 (t : Fin cfg0.N) : win0_7.index t = ![0, 0] := (by decide +kernel : ∀ t : Fin cfg0.N, win0_7.index t = ![0, 0]) t
theorem ix0_8 (t : Fin cfg0.N) : win0_8.index t = ![0, 0] := (by decide +kernel : ∀ t : Fin cfg0.N, win0_8.index t = ![0, 0]) t

theorem i0_0 (c : Dev nD) (t : Fin cfg0.N) : iblk0 V c 0 t = V c main_arg3 := by
  funext y
  blk_ext [iblk0, ix0_0]

theorem i0_1 (c : Dev nD) (t : Fin cfg0.N) : iblk0 V c 1 t = V c main_arg1 := by
  funext y
  blk_ext [iblk0, ix0_1]

theorem i0_2 (c : Dev nD) (t : Fin cfg0.N) : iblk0 V c 2 t = V c main_arg5 := by
  funext y
  blk_ext [iblk0, ix0_2]

theorem i0_3 (c : Dev nD) (t : Fin cfg0.N) : iblk0 V c 3 t = V c main_v8 := by
  funext y
  blk_ext [iblk0, ix0_3]

theorem i0_4 (c : Dev nD) (t : Fin cfg0.N) : iblk0 V c 4 t = V c main_v7 := by
  funext y
  blk_ext [iblk0, ix0_4]

theorem arr0_5 (c : Dev nD) : (dat0 V c).arrAt 5 cfg0.N = k0_pay1 (F := Ideal) (V c main_arg3) := by
  refine (dat0 V c).arrAt_eq_of_covers 5 _ (by decide +kernel) fun t hf y => ?_
  blk_simp
  rw [after0_5]
  frame_out
  rw [i0_0]
  refine congrArg (k0_pay1 (F := Ideal) (V c main_arg3)) ?_
  blk_ext [ix0_5]

theorem arr0_6 (c : Dev nD) : (dat0 V c).arrAt 6 cfg0.N = k0_pay2 (F := Ideal) (V c main_arg1) := by
  refine (dat0 V c).arrAt_eq_of_covers 6 _ (by decide +kernel) fun t hf y => ?_
  blk_simp
  rw [after0_6]
  frame_out
  rw [i0_1]
  refine congrArg (k0_pay2 (F := Ideal) (V c main_arg1)) ?_
  blk_ext [ix0_6]

theorem arr0_7 (c : Dev nD) : (dat0 V c).arrAt 7 cfg0.N = k0_pay3 (F := Ideal) (V c main_arg5) := by
  refine (dat0 V c).arrAt_eq_of_covers 7 _ (by decide +kernel) fun t hf y => ?_
  blk_simp
  rw [after0_7]
  frame_out
  rw [i0_2]
  refine congrArg (k0_pay3 (F := Ideal) (V c main_arg5)) ?_
  blk_ext [ix0_7]

theorem arr0_8 (c : Dev nD) : (dat0 V c).arrAt 8 cfg0.N = k0_pay4 (F := Ideal) (V c main_v8) (V c main_v7) := by
  refine (dat0 V c).arrAt_eq_of_covers 8 _ (by decide +kernel) fun t hf y => ?_
  blk_simp
  rw [after0_8]
  frame_out
  rw [i0_3, i0_4]
  refine congrArg (k0_pay4 (F := Ideal) (V c main_v8) (V c main_v7)) ?_
  blk_ext [ix0_8]

theorem ix1_0 (t : Fin cfg1.N) : win1_0.index t = ![0, 0] := (by decide +kernel : ∀ t : Fin cfg1.N, win1_0.index t = ![0, 0]) t
theorem ix1_1 (t : Fin cfg1.N) : win1_1.index t = ![0, 0] := (by decide +kernel : ∀ t : Fin cfg1.N, win1_1.index t = ![0, 0]) t
theorem ix1_2 (t : Fin cfg1.N) : win1_2.index t = ![0, 0] := (by decide +kernel : ∀ t : Fin cfg1.N, win1_2.index t = ![0, 0]) t
theorem ix1_3 (t : Fin cfg1.N) : win1_3.index t = ![0, 0] := (by decide +kernel : ∀ t : Fin cfg1.N, win1_3.index t = ![0, 0]) t
theorem ix1_4 (t : Fin cfg1.N) : win1_4.index t = ![0, 0] := (by decide +kernel : ∀ t : Fin cfg1.N, win1_4.index t = ![0, 0]) t
theorem ix1_5 (t : Fin cfg1.N) : win1_5.index t = ![0, 0] := (by decide +kernel : ∀ t : Fin cfg1.N, win1_5.index t = ![0, 0]) t
theorem ix1_6 (t : Fin cfg1.N) : win1_6.index t = ![0, 0] := (by decide +kernel : ∀ t : Fin cfg1.N, win1_6.index t = ![0, 0]) t
theorem ix1_7 (t : Fin cfg1.N) : win1_7.index t = ![0, 0] := (by decide +kernel : ∀ t : Fin cfg1.N, win1_7.index t = ![0, 0]) t
theorem ix1_8 (t : Fin cfg1.N) : win1_8.index t = ![0, 0] := (by decide +kernel : ∀ t : Fin cfg1.N, win1_8.index t = ![0, 0]) t

theorem i1_0 (c : Dev nD) (t : Fin cfg1.N) : iblk1 V c 0 t = V c main_arg11 := by
  funext y
  blk_ext [iblk1, ix1_0]

theorem i1_1 (c : Dev nD) (t : Fin cfg1.N) : iblk1 V c 1 t = V c main_arg9 := by
  funext y
  blk_ext [iblk1, ix1_1]

theorem i1_2 (c : Dev nD) (t : Fin cfg1.N) : iblk1 V c 2 t = V c main_arg13 := by
  funext y
  blk_ext [iblk1, ix1_2]

theorem i1_3 (c : Dev nD) (t : Fin cfg1.N) : iblk1 V c 3 t = V c main_v10 := by
  funext y
  blk_ext [iblk1, ix1_3]

theorem i1_4 (c : Dev nD) (t : Fin cfg1.N) : iblk1 V c 4 t = V c main_v7 := by
  funext y
  blk_ext [iblk1, ix1_4]

theorem arr1_5 (c : Dev nD) : (dat1 V c).arrAt 5 cfg1.N = k1_pay1 (F := Ideal) (V c main_arg11) := by
  refine (dat1 V c).arrAt_eq_of_covers 5 _ (by decide +kernel) fun t hf y => ?_
  blk_simp
  rw [after1_5]
  frame_out
  rw [i1_0]
  refine congrArg (k1_pay1 (F := Ideal) (V c main_arg11)) ?_
  blk_ext [ix1_5]

theorem arr1_6 (c : Dev nD) : (dat1 V c).arrAt 6 cfg1.N = k1_pay2 (F := Ideal) (V c main_arg9) := by
  refine (dat1 V c).arrAt_eq_of_covers 6 _ (by decide +kernel) fun t hf y => ?_
  blk_simp
  rw [after1_6]
  frame_out
  rw [i1_1]
  refine congrArg (k1_pay2 (F := Ideal) (V c main_arg9)) ?_
  blk_ext [ix1_6]

theorem arr1_7 (c : Dev nD) : (dat1 V c).arrAt 7 cfg1.N = k1_pay3 (F := Ideal) (V c main_arg13) := by
  refine (dat1 V c).arrAt_eq_of_covers 7 _ (by decide +kernel) fun t hf y => ?_
  blk_simp
  rw [after1_7]
  frame_out
  rw [i1_2]
  refine congrArg (k1_pay3 (F := Ideal) (V c main_arg13)) ?_
  blk_ext [ix1_7]

theorem arr1_8 (c : Dev nD) : (dat1 V c).arrAt 8 cfg1.N = k1_pay4 (F := Ideal) (V c main_v10) (V c main_v7) := by
  refine (dat1 V c).arrAt_eq_of_covers 8 _ (by decide +kernel) fun t hf y => ?_
  blk_simp
  rw [after1_8]
  frame_out
  rw [i1_3, i1_4]
  refine congrArg (k1_pay4 (F := Ideal) (V c main_v10) (V c main_v7)) ?_
  blk_ext [ix1_8]

end Cert.KernelIdeal.Model

end
-- ==== Proof.Witness.lean ====
/- What the fused kernel's body leaves in its output block: the whole body's vector function of its inputs. -/
module

public import proofs.«01_k».proof.Proof.Model
public import proofs.«01_k».proof.Proof.Gen.KernelIdeal.Frame
public import Idealize.ShloMosaic.Lib.Tactic
public import Idealize.ShloMosaic.Lib.Pipeline.Value

@[expose] public section

set_option maxRecDepth 65536

noncomputable section

namespace Cert.KernelIdeal.Model

open Idealize.ShloMosaic Idealize.ShloMosaic.TcCoe Idealize.SL.Sem Cert.KernelIdeal Cert.KernelIdeal.Gen
open Idealize.ShloMosaic.Tactic

/-- A load of a whole block reads the block's contents. -/
theorem load_eq {S : Shape} (m : Memref sig .tc .vmem S .f32) (hm : m.IsWhole) (x : Vec Ideal S .f32) {off : Fin S.rank → ℕ} (h : off = fun _ => 0)
    (inb : ∀ a, off a + S.size a ≤ S.size a) :
    View.readAt (Elt Ideal) m.view (Rect.unit off S.size inb).toLoadRect (hm.unread x) = x := by
  rw [View.readAt_eq_ld, Memref.IsWhole.read_unread]
  exact View.ld_unit_zero h inb x

set_option maxHeartbeats 4000000 in
/-- The body's output block is the model of its input blocks. -/
theorem out_eq (c : Dev nD) (i : grid2.Coords) (arg1 : Memref sig .tc .vmem S16x9x17x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x768 .f32) (harg4 : arg4.IsWhole) (arg5 : Memref sig .tc .vmem S256x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S128x768 .f32) (harg12 : arg12.IsWhole) (arg13 : Memref sig .tc .vmem S256x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S16x9x17x256 .f32) (harg16 : arg16.IsWhole) (arg17 : Memref sig .tc .vmem S8x128 .f32) (harg17 : arg17.IsWhole)
    (x0 : Vec Ideal S16x9x17x256 .f32) (x1 : Vec Ideal S256x128 .f32) (x2 : Vec Ideal S1x128 .f32) (x3 : Vec Ideal S128x768 .f32) (x4 : Vec Ideal S256x128 .f32) (x5 : Vec Ideal S128x256 .f32) (x6 : Vec Ideal S1x256 .f32) (x7 : Vec Ideal S1x256 .f32) (x8 : Vec Ideal S1x256 .f32) (x9 : Vec Ideal S256x128 .f32) (x10 : Vec Ideal S1x128 .f32) (x11 : Vec Ideal S128x768 .f32) (x12 : Vec Ideal S256x128 .f32) (x13 : Vec Ideal S128x256 .f32) (x14 : Vec Ideal S1x256 .f32) :
    out2_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 = fused x0 x1 x2 x3 x4 x5 x6 x7 x8 x9 x10 x11 x12 x13 x14 := by
  unfold out2_A_15
  refine (View.read_writes_eq_canon _ _ _ (cover2_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14)).trans ?_
  unfold kernelRun2_A
  dsimp only
  sl_unfold_words
  have h4 : (![0, 0, 0, 0] : Fin 4 → ℕ) = fun _ => 0 := by decide
  have h2 : (![0, 0] : Fin 2 → ℕ) = fun _ => 0 := by decide
  refine (View.canon_unit_zero h4 _ _).trans ?_
  refine Eq.trans (b := fused
      (View.readAt (Elt Ideal) arg1.view (Rect.unit ![0, 0, 0, 0] S16x9x17x256.size inb_S16x9x17x256_S16x9x17x256_0_0_0_0).toLoadRect (harg1.unread x0))
      (shapeCast S256x128 (View.readAt (Elt Ideal) arg2.view (Rect.unit ![0, 0] S256x128.size inb_S256x128_S256x128_0_0).toLoadRect (harg2.unread x1)) shapeCasts_S256x128_S256x128)
      (shapeCast S1x128 (View.readAt (Elt Ideal) arg3.view (Rect.unit ![0, 0] S1x128.size inb_S1x128_S1x128_0_0).toLoadRect (harg3.unread x2)) shapeCasts_S1x128_S1x128)
      (shapeCast S128x768 (View.readAt (Elt Ideal) arg4.view (Rect.unit ![0, 0] S128x768.size inb_S128x768_S128x768_0_0).toLoadRect (harg4.unread x3)) shapeCasts_S128x768_S128x768)
      (shapeCast S256x128 (View.readAt (Elt Ideal) arg5.view (Rect.unit ![0, 0] S256x128.size inb_S256x128_S256x128_0_0).toLoadRect (harg5.unread x4)) shapeCasts_S256x128_S256x128)
      (shapeCast S128x256 (View.readAt (Elt Ideal) arg6.view (Rect.unit ![0, 0] S128x256.size inb_S128x256_S128x256_0_0).toLoadRect (harg6.unread x5)) shapeCasts_S128x256_S128x256)
      (shapeCast S1x256 (View.readAt (Elt Ideal) arg7.view (Rect.unit ![0, 0] S1x256.size inb_S1x256_S1x256_0_0).toLoadRect (harg7.unread x6)) shapeCasts_S1x256_S1x256)
      (shapeCast S1x256 (View.readAt (Elt Ideal) arg8.view (Rect.unit ![0, 0] S1x256.size inb_S1x256_S1x256_0_0).toLoadRect (harg8.unread x7)) shapeCasts_S1x256_S1x256)
      (shapeCast S1x256 (View.readAt (Elt Ideal) arg9.view (Rect.unit ![0, 0] S1x256.size inb_S1x256_S1x256_0_0).toLoadRect (harg9.unread x8)) shapeCasts_S1x256_S1x256)
      (shapeCast S256x128 (View.readAt (Elt Ideal) arg10.view (Rect.unit ![0, 0] S256x128.size inb_S256x128_S256x128_0_0).toLoadRect (harg10.unread x9)) shapeCasts_S256x128_S256x128)
      (shapeCast S1x128 (View.readAt (Elt Ideal) arg11.view (Rect.unit ![0, 0] S1x128.size inb_S1x128_S1x128_0_0).toLoadRect (harg11.unread x10)) shapeCasts_S1x128_S1x128)
      (shapeCast S128x768 (View.readAt (Elt Ideal) arg12.view (Rect.unit ![0, 0] S128x768.size inb_S128x768_S128x768_0_0).toLoadRect (harg12.unread x11)) shapeCasts_S128x768_S128x768)
      (shapeCast S256x128 (View.readAt (Elt Ideal) arg13.view (Rect.unit ![0, 0] S256x128.size inb_S256x128_S256x128_0_0).toLoadRect (harg13.unread x12)) shapeCasts_S256x128_S256x128)
      (shapeCast S128x256 (View.readAt (Elt Ideal) arg14.view (Rect.unit ![0, 0] S128x256.size inb_S128x256_S128x256_0_0).toLoadRect (harg14.unread x13)) shapeCasts_S128x256_S128x256)
      (shapeCast S1x256 (View.readAt (Elt Ideal) arg15.view (Rect.unit ![0, 0] S1x256.size inb_S1x256_S1x256_0_0).toLoadRect (harg15.unread x14)) shapeCasts_S1x256_S1x256)) ?_ ?_
  rotate_left
  · rw [load_eq arg1 harg1 x0 h4, load_eq arg2 harg2 x1 h2, load_eq arg3 harg3 x2 h2, load_eq arg4 harg4 x3 h2, load_eq arg5 harg5 x4 h2, load_eq arg6 harg6 x5 h2, load_eq arg7 harg7 x6 h2, load_eq arg8 harg8 x7 h2, load_eq arg9 harg9 x8 h2, load_eq arg10 harg10 x9 h2, load_eq arg11 harg11 x10 h2, load_eq arg12 harg12 x11 h2, load_eq arg13 harg13 x12 h2, load_eq arg14 harg14 x13 h2, load_eq arg15 harg15 x14 h2]
    rw [shapeCast_self x1, shapeCast_self x2, shapeCast_self x3, shapeCast_self x4, shapeCast_self x5, shapeCast_self x6, shapeCast_self x7, shapeCast_self x8, shapeCast_self x9, shapeCast_self x10, shapeCast_self x11, shapeCast_self x12, shapeCast_self x13, shapeCast_self x14]
  dsimp only [Dev.tc, Proc.kind]
  dsimp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139, k2_pay140, k2_pay141, k2_pay142, k2_pay143, k2_pay144, k2_pay145, k2_pay146, k2_pay147, k2_pay148, k2_pay149, k2_pay150, k2_pay151, k2_pay152, k2_pay153, k2_pay154, k2_pay155, k2_pay156, k2_pay157, k2_pay158, k2_pay159, k2_pay160, k2_pay161, k2_pay162, k2_pay163, k2_pay164, k2_pay165, k2_pay166, k2_pay167, k2_pay168, k2_pay169, k2_pay170, k2_pay171, k2_pay172, k2_pay173, k2_pay174, k2_pay175, k2_pay176, k2_pay177, k2_pay178, k2_pay179, k2_pay180, k2_pay181, k2_pay182, k2_pay183, k2_pay184, k2_pay185, k2_pay186, k2_pay187, k2_pay188, k2_pay189, k2_pay190, k2_pay191, k2_pay192, k2_pay193, k2_pay194, k2_pay195, k2_pay196, k2_pay197, k2_pay198, k2_pay199, k2_pay200, k2_pay201, k2_pay202, k2_pay203, k2_pay204, k2_pay205, k2_pay206, k2_pay207, k2_pay208, k2_pay209, k2_pay210, k2_pay211, k2_pay212, k2_pay213, k2_pay214, k2_pay215, k2_pay216, k2_pay217, k2_pay218, k2_pay219, k2_pay220, k2_pay221, k2_pay222, k2_pay223, k2_pay224, k2_pay225, k2_pay226, k2_pay227, k2_pay228, k2_pay229, k2_pay230, k2_pay231, k2_pay232, k2_pay233, k2_pay234, k2_pay235, k2_pay236, k2_pay237, k2_pay238, k2_pay239, k2_pay240, k2_pay241, k2_pay242, k2_pay243, k2_pay244, k2_pay245, k2_pay246, k2_pay247, k2_pay248, k2_pay249, k2_pay250, k2_pay251, k2_pay252, k2_pay253, k2_pay254, k2_pay255, k2_pay256, k2_pay257, k2_pay258, k2_pay259, k2_pay260, k2_pay261, k2_pay262, k2_pay263, k2_pay264, k2_pay265, k2_pay266, k2_pay267, k2_pay268, k2_pay269, k2_pay270, k2_pay271, k2_pay272, k2_pay273, k2_pay274, k2_pay275, k2_pay276, k2_pay277, k2_pay278, k2_pay279, k2_pay280, k2_pay281, k2_pay282, k2_pay283, k2_pay284, k2_pay285, k2_pay286, k2_pay287, k2_pay288, k2_pay289, k2_pay290, k2_pay291, k2_pay292, k2_pay293, k2_pay294, k2_pay295, k2_pay296, k2_pay297, k2_pay298, k2_pay299, k2_pay300, k2_pay301, k2_pay302, k2_pay303, k2_pay304, k2_pay305, k2_pay306, k2_pay307, k2_pay308, k2_pay309, k2_pay310, k2_pay311, k2_pay312, k2_pay313, k2_pay314, k2_pay315, k2_pay316, k2_pay317, k2_pay318, k2_pay319, k2_pay320, k2_pay321, k2_pay322, k2_pay323, k2_pay324, k2_pay325, k2_pay326, k2_pay327, k2_pay328, k2_pay329, k2_pay330, k2_pay331, k2_pay332, k2_pay333, k2_pay334, k2_pay335, k2_pay336, k2_pay337, k2_pay338, k2_pay339, k2_pay340, k2_pay341, k2_pay342, k2_pay343, k2_pay344, k2_pay345, k2_pay346, k2_pay347, k2_pay348, k2_pay349, k2_pay350, k2_pay351, k2_pay352, k2_pay353, k2_pay354, k2_pay355, k2_pay356, k2_pay357, k2_pay358, k2_pay359, k2_pay360, k2_pay361, k2_pay362, k2_pay363, k2_pay364, k2_pay365, k2_pay366, k2_pay367, k2_pay368, k2_pay369, k2_pay370, k2_pay371, k2_pay372, k2_pay373, k2_pay374, k2_pay375, k2_pay376, k2_pay377, k2_pay378, k2_pay379, k2_pay380, k2_pay381, k2_pay382, k2_pay383, k2_pay384, k2_pay385, k2_pay386, k2_pay387, k2_pay388, k2_pay389, k2_pay390, k2_pay391, k2_pay392, k2_pay393, k2_pay394, k2_pay395, k2_pay396, k2_pay397, k2_pay398, k2_pay399, k2_pay400, k2_pay401, k2_pay402, k2_pay403, k2_pay404, k2_pay405, k2_pay406, k2_pay407, k2_pay408, k2_pay409, k2_pay410, k2_pay411, k2_pay412, k2_pay413, k2_pay414, k2_pay415, k2_pay416, k2_pay417, k2_pay418, k2_pay419, k2_pay420, k2_pay421, k2_pay422, k2_pay423, k2_pay424, k2_pay425, k2_pay426, k2_pay427, k2_pay428, k2_pay429, k2_pay430, k2_pay431, k2_pay432, k2_pay433, k2_pay434, k2_pay435, k2_pay436, k2_pay437, k2_pay438, k2_pay439, k2_pay440, k2_pay441, k2_pay442, k2_pay443, k2_pay444, k2_pay445, k2_pay446, k2_pay447, k2_pay448, k2_pay449, k2_pay450, k2_pay451, k2_pay452, k2_pay453, k2_pay454, k2_pay455, k2_pay456, k2_pay457, k2_pay458, k2_pay459, k2_pay460, k2_pay461, k2_pay462, k2_pay463, k2_pay464, k2_pay465, k2_pay466, k2_pay467, k2_pay468, k2_pay469, k2_pay470, k2_pay471, k2_pay472, k2_pay473, k2_pay474, k2_pay475, k2_pay476, k2_pay477, k2_pay478, k2_pay479, k2_pay480, k2_pay481, k2_pay482, k2_pay483, k2_pay484, k2_pay485, k2_pay486, k2_pay487, k2_pay488, k2_pay489, k2_pay490, k2_pay491, k2_pay492, k2_pay493, k2_pay494, k2_pay495, k2_pay496, k2_pay497, k2_pay498, k2_pay499, k2_pay500, k2_pay501, k2_pay502, k2_pay503, k2_pay504, k2_pay505, k2_pay506, k2_pay507, k2_pay508, k2_pay509, k2_pay510, k2_pay511, k2_pay512, k2_pay513, k2_pay514, k2_pay515, k2_pay516, k2_pay517, k2_pay518, k2_pay519, k2_pay520, k2_pay521, k2_pay522, k2_pay523, k2_pay524, k2_pay525, k2_pay526, k2_pay527, k2_pay528, k2_pay529, k2_pay530, k2_pay531, k2_pay532, k2_pay533, k2_pay534, k2_pay535, k2_pay536, k2_pay537, k2_pay538, k2_pay539, k2_pay540, k2_pay541, k2_pay542, k2_pay543, k2_pay544, k2_pay545, k2_pay546, k2_pay547, k2_pay548, k2_pay549, k2_pay550, k2_pay551, k2_pay552, k2_pay553, k2_pay554, k2_pay555, k2_pay556, k2_pay557, k2_pay558, k2_pay559, k2_pay560, k2_pay561, k2_pay562, k2_pay563, k2_pay564, k2_pay565, k2_pay566, k2_pay567, k2_pay568, k2_pay569, k2_pay570, k2_pay571, k2_pay572, k2_pay573, k2_pay574, k2_pay575, k2_pay576, k2_pay577, k2_pay578, k2_pay579, k2_pay580, k2_pay581, k2_pay582, k2_pay583, k2_pay584, k2_pay585, k2_pay586, k2_pay587, k2_pay588, k2_pay589, k2_pay590, k2_pay591, k2_pay592, k2_pay593, k2_pay594, k2_pay595, k2_pay596, k2_pay597, k2_pay598, k2_pay599, k2_pay600, k2_pay601, k2_pay602, k2_pay603, k2_pay604, k2_pay605, k2_pay606, k2_pay607, k2_pay608, k2_pay609, k2_pay610, k2_pay611, k2_pay612, k2_pay613, k2_pay614, k2_pay615, k2_pay616, k2_pay617, k2_pay618, k2_pay619, k2_pay620, k2_pay621, k2_pay622, k2_pay623, k2_pay624, k2_pay625, k2_pay626, k2_pay627, k2_pay628, k2_pay629, k2_pay630, k2_pay631, k2_pay632, k2_pay633, k2_pay634, k2_pay635, k2_pay636, k2_pay637, k2_pay638, k2_pay639, k2_pay640, k2_pay641, k2_pay642, k2_pay643, k2_pay644, k2_pay645, k2_pay646, k2_pay647, k2_pay648, k2_pay649, k2_pay650, k2_pay651, k2_pay652, k2_pay653, k2_pay654, k2_pay655, k2_pay656, k2_pay657, k2_pay658, k2_pay659, k2_pay660, k2_pay661, k2_pay662, k2_pay663, k2_pay664, k2_pay665, k2_pay666, k2_pay667, k2_pay668, k2_pay669, k2_pay670, k2_pay671, k2_pay672, k2_pay673, k2_pay674, k2_pay675, k2_pay676, k2_pay677, k2_pay678, k2_pay679, k2_pay680, k2_pay681, k2_pay682, k2_pay683, k2_pay684, k2_pay685, k2_pay686, k2_pay687, k2_pay688, k2_pay689, k2_pay690, k2_pay691, k2_pay692, k2_pay693, k2_pay694, k2_pay695, k2_pay696, k2_pay697, k2_pay698, k2_pay699, k2_pay700, k2_pay701, k2_pay702, k2_pay703, k2_pay704, k2_pay705, k2_pay706, k2_pay707, k2_pay708, k2_pay709, k2_pay710, k2_pay711, k2_pay712, k2_pay713, k2_pay714, k2_pay715, k2_pay716, k2_pay717, k2_pay718, k2_pay719, k2_pay720, k2_pay721, k2_pay722, k2_pay723, k2_pay724, k2_pay725, k2_pay726, k2_pay727, k2_pay728, k2_pay729, k2_pay730, k2_pay731, k2_pay732, k2_pay733, k2_pay734, k2_pay735, k2_pay736, k2_pay737, k2_pay738, k2_pay739, k2_pay740, k2_pay741, k2_pay742, k2_pay743, k2_pay744, k2_pay745, k2_pay746, k2_pay747, k2_pay748, k2_pay749, k2_pay750, k2_pay751, k2_pay752, k2_pay753, k2_pay754, k2_pay755, k2_pay756, k2_pay757, k2_pay758, k2_pay759, k2_pay760, k2_pay761, k2_pay762, k2_pay763, k2_pay764, k2_pay765, k2_pay766, k2_pay767, k2_pay768, k2_pay769, k2_pay770, k2_pay771, k2_pay772, k2_pay773, k2_pay774, k2_pay775, k2_pay776, k2_pay777, k2_pay778, k2_pay779, k2_pay780, k2_pay781, k2_pay782, k2_pay783, k2_pay784, k2_pay785, k2_pay786, k2_pay787, k2_pay788, k2_pay789, k2_pay790, k2_pay791, k2_pay792, k2_pay793, k2_pay794, k2_pay795, k2_pay796, k2_pay797, k2_pay798, k2_pay799, k2_pay800, k2_pay801, k2_pay802, k2_pay803, k2_pay804, k2_pay805, k2_pay806, k2_pay807, k2_pay808, k2_pay809, k2_pay810, k2_pay811, k2_pay812, k2_pay813, k2_pay814, k2_pay815, k2_pay816, k2_pay817, k2_pay818, k2_pay819, k2_pay820, k2_pay821, k2_pay822, k2_pay823, k2_pay824, k2_pay825, k2_pay826, k2_pay827, k2_pay828, k2_pay829, k2_pay830, k2_pay831, k2_pay832, k2_pay833, k2_pay834, k2_pay835, k2_pay836, k2_pay837, k2_pay838, k2_pay839, k2_pay840, k2_pay841, k2_pay842, k2_pay843, k2_pay844, k2_pay845, k2_pay846, k2_pay847, k2_pay848, k2_pay849, k2_pay850, k2_pay851, k2_pay852, k2_pay853, k2_pay854, k2_pay855, k2_pay856, k2_pay857, k2_pay858, k2_pay859, k2_pay860, k2_pay861, k2_pay862, k2_pay863, k2_pay864, k2_pay865, k2_pay866, k2_pay867, k2_pay868, k2_pay869, k2_pay870, k2_pay871, k2_pay872, k2_pay873, k2_pay874, k2_pay875, k2_pay876, k2_pay877, k2_pay878, k2_pay879, k2_pay880, k2_pay881, k2_pay882, k2_pay883, k2_pay884, k2_pay885, k2_pay886, k2_pay887, k2_pay888, k2_pay889, k2_pay890, k2_pay891, k2_pay892, k2_pay893, k2_pay894, k2_pay895, k2_pay896, k2_pay897, k2_pay898, k2_pay899, k2_pay900, k2_pay901, k2_pay902, k2_pay903, k2_pay904, k2_pay905, k2_pay906, k2_pay907, k2_pay908, k2_pay909, k2_pay910, k2_pay911, k2_pay912, k2_pay913, k2_pay914, k2_pay915]
  dsimp only [vsum, score4, expo4, maxi4, pick4, score5, expo5, maxi5, pick5, score7, expo7, maxi7, pick7, score8, expo8, maxi8, pick8, score9, expo9, maxi9, pick9, score10, expo10, maxi10, pick10, score17, expo17, maxi17, pick17, node, vnode, box, m0, sg0, sg1, sg2, sg3, sg4, sg5, sg6, sg7, sg8, sg9, sg10, sg11, sg12, sg13, sg14, sg15, sg16, sg17, sg18, m1, m2, m3, m4, m5, m6, m7, m8, m9, m10, m11, m12, m13, m14, m15, m16, m17, m18, m19, e0, e1, e2, e3, e4, e5, e6, e7, e8, e9, e10, e11, e12, e13, e14, e15, e16, e17, e18, den0, acc0, den1, acc1, den2, acc2, den3, acc3, den4, acc4, den5, acc5, den6, acc6, den7, acc7, den8, acc8, den9, acc9, den10, acc10, den11, acc11, den12, acc12, den13, acc13, den14, acc14, den15, acc15, den16, acc16, den17, acc17, den18, acc18, denAll, accAll, lin, qOf, kOf, v1Of, v2Of, att, gconv, prep, mean, lnorm, fin, fused, List.foldl_cons, List.foldl_nil]
end Cert.KernelIdeal.Model
-- ==== Proof.Value.lean ====
/- The fused call's array after its run, at an index: the network at that position. -/
module

public import proofs.«01_k».proof.Proof.Rows
public import proofs.«01_k».proof.Proof.Arrays
public import proofs.«01_k».proof.Proof.Witness

@[expose] public section

set_option maxRecDepth 16384

noncomputable section

namespace Cert.KernelIdeal.Model

open Idealize.ShloMosaic Idealize.ShloMosaic.TcCoe Idealize.SL.Sem Cert.KernelIdeal Cert.KernelIdeal.Gen Idealize.ShloMosaic.Pipeline Idealize.ShloMosaic.ValueKit Cert.Row

theorem pay1_at (x : Vec Ideal S768x128 .f32) (c : Fin 128) (o : Fin 768) : k0_pay1 (F := Ideal) x (ix2 c o) = x (ix2 (perm o) c) := by
  unfold k0_pay1; pointwise
  unfold perm
  by_cases h1 : o.val < 256
  · rw [dif_pos h1, dif_pos h1]
  rw [dif_neg h1, dif_neg h1]
  by_cases h2 : o.val < 512
  · rw [dif_pos (by omega), dif_pos h2]
  rw [dif_neg (by omega), dif_neg h2]
  by_cases h3 : o.val < 640
  · rw [dif_pos (by omega), dif_pos h3]
    exact congrArg (fun n => x (ix2 n c)) (Fin.ext (by dsimp only; omega))
  · rw [dif_neg (by omega), dif_neg h3]
    exact congrArg (fun n => x (ix2 n c)) (Fin.ext (by dsimp only; omega))

theorem pay2_at (x : Vec Ideal S128x256 .f32) (f : Fin 256) (c : Fin 128) : k0_pay2 (F := Ideal) x (ix2 f c) = x (ix2 c f) := by
  unfold k0_pay2; pointwise

theorem pay3_at (x : Vec Ideal S256x128 .f32) (l : Fin 128) (c : Fin 256) : k0_pay3 (F := Ideal) x (ix2 l c) = x (ix2 c l) := by
  unfold k0_pay3; pointwise

theorem pay4_at (a : Vec Ideal S32x1 .f32) (e : Vec Ideal S256x128 .f32) (f : Fin 256) (l : Fin 128) :
    k0_pay4 (F := Ideal) a e (ix2 f l) = a (ix2 ⟨f.val % 32, Nat.mod_lt _ (by norm_num)⟩ 0) * e (ix2 f l) := by
  unfold k0_pay4; pointwise
  congr 1
  split_ifs <;> exact congrArg (fun n => a (ix2 n 0)) (Fin.ext (by dsimp only; omega))

variable (V : (c : Dev nD) → (b : Ref sig .tc) → Buf (Elt Ideal) ((c : Thread nD τ).loc b))

theorem ix2_1 (t : Fin cfg2.N) : win2_1.index t = ![0, 0] := (by decide +kernel : ∀ t : Fin cfg2.N, win2_1.index t = ![0, 0]) t
theorem i2_1 (c : Dev nD) (t : Fin cfg2.N) : iblk2 V c 1 t = V c main_v9_1 := by
  funext y
  blk_ext [iblk2, ix2_1]

theorem ix2_2 (t : Fin cfg2.N) : win2_2.index t = ![0, 0] := (by decide +kernel : ∀ t : Fin cfg2.N, win2_2.index t = ![0, 0]) t
theorem i2_2 (c : Dev nD) (t : Fin cfg2.N) : iblk2 V c 2 t = V c main_v12 := by
  funext y
  blk_ext [iblk2, ix2_2]

theorem ix2_3 (t : Fin cfg2.N) : win2_3.index t = ![0, 0] := (by decide +kernel : ∀ t : Fin cfg2.N, win2_3.index t = ![0, 0]) t
theorem i2_3 (c : Dev nD) (t : Fin cfg2.N) : iblk2 V c 3 t = V c main_v9_0 := by
  funext y
  blk_ext [iblk2, ix2_3]

theorem ix2_4 (t : Fin cfg2.N) : win2_4.index t = ![0, 0] := (by decide +kernel : ∀ t : Fin cfg2.N, win2_4.index t = ![0, 0]) t
theorem i2_4 (c : Dev nD) (t : Fin cfg2.N) : iblk2 V c 4 t = V c main_v9_3 := by
  funext y
  blk_ext [iblk2, ix2_4]

theorem ix2_5 (t : Fin cfg2.N) : win2_5.index t = ![0, 0] := (by decide +kernel : ∀ t : Fin cfg2.N, win2_5.index t = ![0, 0]) t
theorem i2_5 (c : Dev nD) (t : Fin cfg2.N) : iblk2 V c 5 t = V c main_v9_2 := by
  funext y
  blk_ext [iblk2, ix2_5]

theorem ix2_6 (t : Fin cfg2.N) : win2_6.index t = ![0, 0] := (by decide +kernel : ∀ t : Fin cfg2.N, win2_6.index t = ![0, 0]) t
theorem i2_6 (c : Dev nD) (t : Fin cfg2.N) : iblk2 V c 6 t = V c main_v13 := by
  funext y
  blk_ext [iblk2, ix2_6]

theorem ix2_7 (t : Fin cfg2.N) : win2_7.index t = ![0, 0] := (by decide +kernel : ∀ t : Fin cfg2.N, win2_7.index t = ![0, 0]) t
theorem i2_7 (c : Dev nD) (t : Fin cfg2.N) : iblk2 V c 7 t = V c main_v14 := by
  funext y
  blk_ext [iblk2, ix2_7]

theorem ix2_8 (t : Fin cfg2.N) : win2_8.index t = ![0, 0] := (by decide +kernel : ∀ t : Fin cfg2.N, win2_8.index t = ![0, 0]) t
theorem i2_8 (c : Dev nD) (t : Fin cfg2.N) : iblk2 V c 8 t = V c main_v15 := by
  funext y
  blk_ext [iblk2, ix2_8]

theorem ix2_9 (t : Fin cfg2.N) : win2_9.index t = ![0, 0] := (by decide +kernel : ∀ t : Fin cfg2.N, win2_9.index t = ![0, 0]) t
theorem i2_9 (c : Dev nD) (t : Fin cfg2.N) : iblk2 V c 9 t = V c main_v11_1 := by
  funext y
  blk_ext [iblk2, ix2_9]

theorem ix2_10 (t : Fin cfg2.N) : win2_10.index t = ![0, 0] := (by decide +kernel : ∀ t : Fin cfg2.N, win2_10.index t = ![0, 0]) t
theorem i2_10 (c : Dev nD) (t : Fin cfg2.N) : iblk2 V c 10 t = V c main_v16 := by
  funext y
  blk_ext [iblk2, ix2_10]

theorem ix2_11 (t : Fin cfg2.N) : win2_11.index t = ![0, 0] := (by decide +kernel : ∀ t : Fin cfg2.N, win2_11.index t = ![0, 0]) t
theorem i2_11 (c : Dev nD) (t : Fin cfg2.N) : iblk2 V c 11 t = V c main_v11_0 := by
  funext y
  blk_ext [iblk2, ix2_11]

theorem ix2_12 (t : Fin cfg2.N) : win2_12.index t = ![0, 0] := (by decide +kernel : ∀ t : Fin cfg2.N, win2_12.index t = ![0, 0]) t
theorem i2_12 (c : Dev nD) (t : Fin cfg2.N) : iblk2 V c 12 t = V c main_v11_3 := by
  funext y
  blk_ext [iblk2, ix2_12]

theorem ix2_13 (t : Fin cfg2.N) : win2_13.index t = ![0, 0] := (by decide +kernel : ∀ t : Fin cfg2.N, win2_13.index t = ![0, 0]) t
theorem i2_13 (c : Dev nD) (t : Fin cfg2.N) : iblk2 V c 13 t = V c main_v11_2 := by
  funext y
  blk_ext [iblk2, ix2_13]

theorem ix2_14 (t : Fin cfg2.N) : win2_14.index t = ![0, 0] := (by decide +kernel : ∀ t : Fin cfg2.N, win2_14.index t = ![0, 0]) t
theorem i2_14 (c : Dev nD) (t : Fin cfg2.N) : iblk2 V c 14 t = V c main_v17 := by
  funext y
  blk_ext [iblk2, ix2_14]

theorem ix2_0 (t : Fin cfg2.N) : win2_0.index t = ![0, t.val, 0, 0] := (by decide +kernel : ∀ t : Fin cfg2.N, win2_0.index t = ![0, t.val, 0, 0]) t
theorem ix2_15 (t : Fin cfg2.N) : win2_15.index t = ![0, t.val, 0, 0] := (by decide +kernel : ∀ t : Fin cfg2.N, win2_15.index t = ![0, t.val, 0, 0]) t

theorem i2_0 (c : Dev nD) (t : Fin cfg2.N) (b : Fin 16) (i : Fin 9) (n : Fin 17) (f : Fin 256) :
    iblk2 V c 0 t (ix4 b i n f) = V c main_arg0 (ix4 b ⟨t.val * 9 + i.val, by have h : t.val < 9 := t.isLt; omega⟩ n f) := by
  blk_ext [iblk2, ix2_0]

/-- The network at every position of an input array. -/
def netAll (p q : Wts) (g b : Fin 256 → EReal) (x : FVec Ideal S16x81x17x256 .f32) : FVec Ideal S16x81x17x256 .f32 := fun j =>
  net p q g b (fun m f => x (ix4 (j 0) (j 1) m f)) ⟨(j 2).val, by have h : (j 2).val < 17 := (j 2).isLt; omega⟩ (j 3)

theorem arr2_15 (p q : Wts) (c : Dev nD)
    (h1 : ∀ f c', V c main_v9_1 (ix2 f c') = p.l1 c' f) (h2 : ∀ c', V c main_v12 (ix2 0 c') = p.b1 c') (h3 : ∀ c' o, V c main_v9_0 (ix2 c' o) = p.qw (perm o) c')
    (h4 : ∀ (f : Fin 256) (l : Fin 128), V c main_v9_3 (ix2 f l) = if f.val / 32 = l.val / 16 then p.aw ⟨f.val % 32, Nat.mod_lt _ (by norm_num)⟩ else 0)
    (h5 : ∀ l c', V c main_v9_2 (ix2 l c') = p.l2 c' l) (h6 : ∀ c', V c main_v13 (ix2 0 c') = p.b2 c')
    (h9 : ∀ f c', V c main_v11_1 (ix2 f c') = q.l1 c' f) (h10 : ∀ c', V c main_v16 (ix2 0 c') = q.b1 c') (h11 : ∀ c' o, V c main_v11_0 (ix2 c' o) = q.qw (perm o) c')
    (h12 : ∀ (f : Fin 256) (l : Fin 128), V c main_v11_3 (ix2 f l) = if f.val / 32 = l.val / 16 then q.aw ⟨f.val % 32, Nat.mod_lt _ (by norm_num)⟩ else 0)
    (h13 : ∀ l c', V c main_v11_2 (ix2 l c') = q.l2 c' l) (h14 : ∀ c', V c main_v17 (ix2 0 c') = q.b2 c') :
    (dat2 V c).arrAt 15 cfg2.N = netAll p q (fun f => V c main_v14 (ix2 0 f)) (fun f => V c main_v15 (ix2 0 f)) (V c main_arg0) := by
  refine (dat2 V c).arrAt_eq_of_covers 15 _ (by decide +kernel) fun t hf y => ?_
  blk_simp
  rw [after2_15]
  unfold outsAt2
  rw [out_eq, i2_1, i2_2, i2_3, i2_4, i2_5, i2_6, i2_7, i2_8, i2_9, i2_10, i2_11, i2_12, i2_13, i2_14]
  obtain ⟨b, i, n, d, rfl⟩ : ∃ (b : Fin 16) (i : Fin 9) (n : Fin 17) (d : Fin 256), y = ix4 b i n d :=
    ⟨y 0, y 1, y 2, y 3, by funext a; fin_cases a <;> rfl⟩
  have e : (win2_15.blk t).view.emb (ix4 b i n d) = ix4 b ⟨t.val * 9 + i.val, by have h : t.val < 9 := t.isLt; omega⟩ n d := by
    blk_ext [ix2_15]
  rw [e, fused_at p q _ _ _ _ _ _ _ _ _ _ _ _ _ _ _ h1 h2 h3 h4 h5 h6 h9 h10 h11 h12 h13 h14]
  show _ = net p q _ _ (fun m f => V c main_arg0 (ix4 b ⟨t.val * 9 + i.val, _⟩ m f)) ⟨n.val, _⟩ d
  simp only [i2_0]

end Cert.KernelIdeal.Model

end
-- ==== Proof.Weights.lean ====
/- A layer's weights as the programs' argument arrays hold them. -/
module

public import proofs.«01_k».proof.Proof.Layer
public import Idealize.ShloMosaic.Lib.Pointwise

@[expose] public section

noncomputable section

namespace Cert.Row

open Idealize.ShloMosaic

/-- The weights of one layer from its six arrays. -/
def wts (l1 : FVec Ideal ⟨2, ![128, 256]⟩ .f32) (b1 : FVec Ideal ⟨1, ![128]⟩ .f32) (qw : FVec Ideal ⟨2, ![768, 128]⟩ .f32)
    (aw : FVec Ideal ⟨2, ![1, 32]⟩ .f32) (l2 : FVec Ideal ⟨2, ![256, 128]⟩ .f32) (b2 : FVec Ideal ⟨1, ![256]⟩ .f32) : Wts where
  l1 c f := l1 (ix2 c f)
  b1 c := b1 (ix1 c)
  qw o c := qw (ix2 o c)
  aw a := aw (ix2 0 a)
  l2 c l := l2 (ix2 c l)
  b2 c := b2 (ix1 c)

end Cert.Row

end
-- ==== Proof.KernelRun.lean ====
/- The ideal kernel's run: the result array is the network at every position. -/
module

public import proofs.«01_k».proof.Proof.Value
public import proofs.«01_k».proof.Proof.Weights
public import Idealize.ShloMosaic.Lib.StableHlo.Run

@[expose] public section

set_option maxRecDepth 16384

noncomputable section

namespace Cert.KernelIdeal.Model

open Idealize.ShloMosaic Idealize.ShloMosaic.TcCoe Idealize.SL.Sem Cert.KernelIdeal Cert.KernelIdeal.Gen Idealize.ShloMosaic.Pipeline Idealize.ShloMosaic.ValueKit Cert.Row Idealize.ShloMosaic.StableHlo

variable (m : (ℓ : Loc nD τ sig) → Buf (Elt Ideal) ℓ) (ρ : Dev nD → PrngReg) (c : Dev nD)

/-- Whether a lane belongs to a row's head, as the host computes it. -/
def oneHot : FVec Ideal S256x128 .f32 :=
  uitofp .f32 (cmpi .eq (Host.divsi (iotaInDim S256x128 32 1) (broadcastInDim S256x128 ![] bcast_S_S256x128 (constantI S_ 32 16#32)))
    (Host.divsi (iotaInDim S256x128 32 0) (broadcastInDim S256x128 ![] bcast_S_S256x128 (constantI S_ 32 32#32))))

theorem oneHot_at (f : Fin 256) (l : Fin 128) : oneHot (ix2 f l) = if f.val / 32 = l.val / 16 then 1 else 0 := by
  unfold oneHot; pointwise
  have e1 : ∀ l : Fin 128, IntOp.divsi ArithUnit.host (BitVec.ofNat 32 l.val) 16#32 = BitVec.ofNat 32 (l.val / 16) := by decide +kernel
  have e2 : ∀ f : Fin 256, IntOp.divsi ArithUnit.host (BitVec.ofNat 32 f.val) 32#32 = BitVec.ofNat 32 (f.val / 32) := by decide +kernel
  have e3 : ∀ a b : Fin 8, IntOp.cmpi CmpIPredicate.eq (BitVec.ofNat 32 a.val) (BitVec.ofNat 32 b.val) = if b.val = a.val then 1#1 else 0#1 := by decide +kernel
  rw [e1, e2, e3 ⟨l.val / 16, by omega⟩ ⟨f.val / 32, by omega⟩]
  split
  · show (((1#1 : BitVec 1).toNat : ℝ) : EReal) = 1
    simp
  · show (((0#1 : BitVec 1).toNat : ℝ) : EReal) = 0
    simp

theorem W1_v7 : W1 m ρ c main_v7 = oneHot := by
  unfold oneHot; after_results
theorem W1_v8 : W1 m ρ c main_v8 = shapeCast S32x1 (m ((c.tc : Thread nD τ).loc main_arg4)) shapeCasts_S1x32_S32x1 := by
  after_results
  rfl
theorem W3_v10 : W3 m ρ c main_v10 = shapeCast S32x1 (m ((c.tc : Thread nD τ).loc main_arg12)) shapeCasts_S1x32_S32x1 := by
  rw [← W2_args m ρ c main_arg12 (by decide)]
  after_results
  rfl
theorem W3_v7 : W3 m ρ c main_v7 = oneHot :=
  (W3_of m ρ c main_v7 (by decide)).trans ((W2_of m ρ c main_v7 (by decide)).trans (W1_v7 m ρ c))
theorem W5_v12 (x : Fin 128) : W5 m ρ c main_v12 (ix2 0 x) = m ((c.tc : Thread nD τ).loc main_arg2) (ix1 x) := by
  have h : W5 m ρ c main_v12 = broadcastInDim S1x128 ![1] bcast_S128_S1x128_1 (m ((c.tc : Thread nD τ).loc main_arg2)) := by
    rw [← W4_args m ρ c main_arg2 (by decide)]
    after_results
  rw [h]; pointwise
theorem W5_v13 (x : Fin 256) : W5 m ρ c main_v13 (ix2 0 x) = m ((c.tc : Thread nD τ).loc main_arg6) (ix1 x) := by
  have h : W5 m ρ c main_v13 = broadcastInDim S1x256 ![1] bcast_S256_S1x256_1 (m ((c.tc : Thread nD τ).loc main_arg6)) := by
    rw [← W4_args m ρ c main_arg6 (by decide)]
    after_results
  rw [h]; pointwise
theorem W5_v14 (x : Fin 256) : W5 m ρ c main_v14 (ix2 0 x) = m ((c.tc : Thread nD τ).loc main_arg7) (ix1 x) := by
  have h : W5 m ρ c main_v14 = broadcastInDim S1x256 ![1] bcast_S256_S1x256_1 (m ((c.tc : Thread nD τ).loc main_arg7)) := by
    rw [← W4_args m ρ c main_arg7 (by decide)]
    after_results
  rw [h]; pointwise
theorem W5_v15 (x : Fin 256) : W5 m ρ c main_v15 (ix2 0 x) = m ((c.tc : Thread nD τ).loc main_arg8) (ix1 x) := by
  have h : W5 m ρ c main_v15 = broadcastInDim S1x256 ![1] bcast_S256_S1x256_1 (m ((c.tc : Thread nD τ).loc main_arg8)) := by
    rw [← W4_args m ρ c main_arg8 (by decide)]
    after_results
  rw [h]; pointwise
theorem W5_v16 (x : Fin 128) : W5 m ρ c main_v16 (ix2 0 x) = m ((c.tc : Thread nD τ).loc main_arg10) (ix1 x) := by
  have h : W5 m ρ c main_v16 = broadcastInDim S1x128 ![1] bcast_S128_S1x128_1 (m ((c.tc : Thread nD τ).loc main_arg10)) := by
    rw [← W4_args m ρ c main_arg10 (by decide)]
    after_results
  rw [h]; pointwise
theorem W5_v17 (x : Fin 256) : W5 m ρ c main_v17 (ix2 0 x) = m ((c.tc : Thread nD τ).loc main_arg14) (ix1 x) := by
  have h : W5 m ρ c main_v17 = broadcastInDim S1x256 ![1] bcast_S256_S1x256_1 (m ((c.tc : Thread nD τ).loc main_arg14)) := by
    rw [← W4_args m ρ c main_arg14 (by decide)]
    after_results
  rw [h]; pointwise
theorem W5_v9_0 : W5 m ρ c main_v9_0 = k0_pay1 (F := Ideal) (m ((c.tc : Thread nD τ).loc main_arg3)) := by
  refine (W5_of m ρ c main_v9_0 (by decide)).trans ((W4_of m ρ c main_v9_0 (by decide)).trans ((W3_of m ρ c main_v9_0 (by decide)).trans ((W2_arr m ρ c 5).trans ?_)))
  rw [arr0_5, show V1 m ρ c main_arg3 = m ((c.tc : Thread nD τ).loc main_arg3) from W1_args m ρ c main_arg3 (by decide)]
theorem W5_v11_0 : W5 m ρ c main_v11_0 = k0_pay1 (F := Ideal) (m ((c.tc : Thread nD τ).loc main_arg11)) := by
  refine (W5_of m ρ c main_v11_0 (by decide)).trans ((W4_arr m ρ c 5).trans ?_)
  rw [arr1_5, show V3 m ρ c main_arg11 = m ((c.tc : Thread nD τ).loc main_arg11) from W3_args m ρ c main_arg11 (by decide)]
  rfl
theorem W5_v9_1 : W5 m ρ c main_v9_1 = k0_pay2 (F := Ideal) (m ((c.tc : Thread nD τ).loc main_arg1)) := by
  refine (W5_of m ρ c main_v9_1 (by decide)).trans ((W4_of m ρ c main_v9_1 (by decide)).trans ((W3_of m ρ c main_v9_1 (by decide)).trans ((W2_arr m ρ c 6).trans ?_)))
  rw [arr0_6, show V1 m ρ c main_arg1 = m ((c.tc : Thread nD τ).loc main_arg1) from W1_args m ρ c main_arg1 (by decide)]
theorem W5_v11_1 : W5 m ρ c main_v11_1 = k0_pay2 (F := Ideal) (m ((c.tc : Thread nD τ).loc main_arg9)) := by
  refine (W5_of m ρ c main_v11_1 (by decide)).trans ((W4_arr m ρ c 6).trans ?_)
  rw [arr1_6, show V3 m ρ c main_arg9 = m ((c.tc : Thread nD τ).loc main_arg9) from W3_args m ρ c main_arg9 (by decide)]
  rfl
theorem W5_v9_2 : W5 m ρ c main_v9_2 = k0_pay3 (F := Ideal) (m ((c.tc : Thread nD τ).loc main_arg5)) := by
  refine (W5_of m ρ c main_v9_2 (by decide)).trans ((W4_of m ρ c main_v9_2 (by decide)).trans ((W3_of m ρ c main_v9_2 (by decide)).trans ((W2_arr m ρ c 7).trans ?_)))
  rw [arr0_7, show V1 m ρ c main_arg5 = m ((c.tc : Thread nD τ).loc main_arg5) from W1_args m ρ c main_arg5 (by decide)]
theorem W5_v11_2 : W5 m ρ c main_v11_2 = k0_pay3 (F := Ideal) (m ((c.tc : Thread nD τ).loc main_arg13)) := by
  refine (W5_of m ρ c main_v11_2 (by decide)).trans ((W4_arr m ρ c 7).trans ?_)
  rw [arr1_7, show V3 m ρ c main_arg13 = m ((c.tc : Thread nD τ).loc main_arg13) from W3_args m ρ c main_arg13 (by decide)]
  rfl
theorem W5_v9_3 : W5 m ρ c main_v9_3 = k0_pay4 (F := Ideal) (shapeCast S32x1 (m ((c.tc : Thread nD τ).loc main_arg4)) shapeCasts_S1x32_S32x1) oneHot := by
  refine (W5_of m ρ c main_v9_3 (by decide)).trans ((W4_of m ρ c main_v9_3 (by decide)).trans ((W3_of m ρ c main_v9_3 (by decide)).trans ((W2_arr m ρ c 8).trans ?_)))
  rw [arr0_8, show V1 m ρ c main_v8 = _ from W1_v8 m ρ c, show V1 m ρ c main_v7 = _ from W1_v7 m ρ c]
theorem W5_v11_3 : W5 m ρ c main_v11_3 = k0_pay4 (F := Ideal) (shapeCast S32x1 (m ((c.tc : Thread nD τ).loc main_arg12)) shapeCasts_S1x32_S32x1) oneHot := by
  refine (W5_of m ρ c main_v11_3 (by decide)).trans ((W4_arr m ρ c 8).trans ?_)
  rw [arr1_8, show V3 m ρ c main_v10 = _ from W3_v10 m ρ c, show V3 m ρ c main_v7 = _ from W3_v7 m ρ c]
  rfl

theorem col_at (a : FVec Ideal S1x32 .f32) (x : Fin 32) : shapeCast S32x1 a shapeCasts_S1x32_S32x1 (ix2 x 0) = a (ix2 0 x) := by
  pointwise

theorem mul_hot (x : EReal) (P : Prop) [Decidable P] : x * (if P then (1 : EReal) else 0) = if P then x else 0 := by
  split <;> simp

/-- The first layer's weights. -/
abbrev wA : Wts := wts (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
/-- The second layer's weights. -/
abbrev wB : Wts := wts (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13)) (m ((c.tc : Thread nD τ).loc main_arg14))

/-- What the kernel leaves in its result array. -/
abbrev kOut : FVec Ideal S16x81x17x256 .f32 :=
  netAll (wA m c) (wB m c) (fun f => m ((c.tc : Thread nD τ).loc main_arg7) (ix1 f)) (fun f => m ((c.tc : Thread nD τ).loc main_arg8) (ix1 f))
    (m ((c.tc : Thread nD τ).loc main_arg0))

theorem W6_v18 : W6 m ρ c main_v18 = kOut m c := by
  refine (W6_arr m ρ c 15).trans ?_
  rw [arr2_15 (V5 m ρ) (wA m c) (wB m c) c
    (fun f x => by rw [show V5 m ρ c main_v9_1 = _ from W5_v9_1 m ρ c, pay2_at]; rfl)
    (fun x => (W5_v12 m ρ c x).trans rfl)
    (fun x o => by rw [show V5 m ρ c main_v9_0 = _ from W5_v9_0 m ρ c, pay1_at]; rfl)
    (fun f l => by rw [show V5 m ρ c main_v9_3 = _ from W5_v9_3 m ρ c, pay4_at, oneHot_at, col_at, mul_hot]; rfl)
    (fun l x => by rw [show V5 m ρ c main_v9_2 = _ from W5_v9_2 m ρ c, pay3_at]; rfl)
    (fun x => (W5_v13 m ρ c x).trans rfl)
    (fun f x => by rw [show V5 m ρ c main_v11_1 = _ from W5_v11_1 m ρ c, pay2_at]; rfl)
    (fun x => (W5_v16 m ρ c x).trans rfl)
    (fun x o => by rw [show V5 m ρ c main_v11_0 = _ from W5_v11_0 m ρ c, pay1_at]; rfl)
    (fun f l => by rw [show V5 m ρ c main_v11_3 = _ from W5_v11_3 m ρ c, pay4_at, oneHot_at, col_at, mul_hot]; rfl)
    (fun l x => by rw [show V5 m ρ c main_v11_2 = _ from W5_v11_2 m ρ c, pay3_at]; rfl)
    (fun x => (W5_v17 m ρ c x).trans rfl)]
  rw [show V5 m ρ c main_arg0 = m ((c.tc : Thread nD τ).loc main_arg0) from W5_args m ρ c main_arg0 (by decide)]
  unfold kOut
  congr 1
  · funext f; exact W5_v14 m ρ c f
  · funext f; exact W5_v15 m ρ c f

open Idealize.SL Idealize.SL.RA Idealize.SL.BI
open scoped Idealize.SL.BI
open Idealize.SL.BI.BIBase Idealize.SL.BI.Laws Idealize.SL.ProofMode
open Idealize.ShloMosaic.Rounds
omit c in
/-- Every run ends with the result array at the network of the arguments, and the arguments as they were. -/
theorem run : θ_run defs (onTc (τ := τ) (main (F := Ideal))) ⟨m, fun _ => 0, ρ⟩ (fun r => ∀ c : Dev nD,
      r.2.mem ((c.tc : Thread nD τ).loc main_v18) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨(h c _ (mem_uc main_v18 (by decide))).trans (W6_v18 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩))

end Cert.KernelIdeal.Model

end
-- ==== Proof.RefIdx.lean ====
/- The reference's edge list, and its gathers and scatters by it read at an index. -/
module

public import proofs.«01_k».proof.Proof.Gen.ReferenceIdeal.Run
public import proofs.«01_k».proof.Proof.Layer
public import Idealize.ShloMosaic.Lib.Pointwise
public import Idealize.ShloMosaic.Lib.Routing.OpsSet
public import Idealize.ShloMosaic.Lib.Routing.OpsPair
public import Idealize.ShloMosaic.Lib.Routing.Ops

@[expose] public section

set_option maxRecDepth 16384

noncomputable section

namespace Cert.ReferenceIdeal.Value

open Cert.ReferenceIdeal Cert.ReferenceIdeal.Gen Idealize.ShloMosaic Cert.Row

/-- The node an edge leaves. -/
def st (e : Fin 138) : Fin 19 := ⟨(lit0 e).toNat % 19, Nat.mod_lt _ (by norm_num)⟩
/-- The node an edge enters. -/
def en (e : Fin 138) : Fin 19 := ⟨(lit1 e).toNat % 19, Nat.mod_lt _ (by norm_num)⟩

theorem lit0_eq : ∀ e : Fin 138, lit0 e = BitVec.ofNat 32 (st e).val := by decide +kernel
theorem lit1_eq : ∀ e : Fin 138, lit1 e = BitVec.ofNat 32 (en e).val := by decide +kernel
theorem edge_adj : ∀ e : Fin 138, adj (st e) (en e) := by decide +kernel
theorem adj_edge : ∀ i j : Fin 19, adj i j → ∃ e : Fin 138, st e = i ∧ en e = j := by decide +kernel
theorem edge_inj : ∀ e e' : Fin 138, st e = st e' → en e = en e' → e = e' := by decide +kernel

/-- A column of edge ends, as the program wraps it. -/
def wrap (w : IVec S138 32) : IVec S138x1 32 :=
  broadcastInDim S138x1 ![0] bcast_S138_S138x1_0 (select (cmpi .slt w (broadcastInDim S138 ![] bcast_S_S138 (constantI S_ 32 0#32))) (addi w (broadcastInDim S138 ![] bcast_S_S138 (constantI S_ 32 19#32))) w)

/-- Where the edges leave. -/
def src : IVec S138x1 32 := wrap (fun i => lit0 (S138.rowMajor i))
/-- Where the edges enter. -/
def dst : IVec S138x1 32 := wrap (fun i => lit1 (S138.rowMajor i))

theorem rm138 (e : Fin 138) : S138.rowMajor (ix1 e) = e := by
  have h2 := congrArg S138.rowMajor (Routing.symm1 (N := 138) (e.cast (Routing.numel1 138).symm))
  erw [Equiv.apply_symm_apply] at h2
  have h3 : (ix1 e : S138.Idx) = ValueIdx.ix1 e := by funext a; fin_cases a; rfl
  rw [h3]
  exact h2.symm

theorem wrap_at (w : IVec S138 32) (e : Fin 138) (n : Fin 19) (h : w (ix1 e) = BitVec.ofNat 32 n.val) :
    wrap w (ix2 e 0) = BitVec.ofNat 32 n.val := by
  unfold wrap; pointwise
  rw [h]
  have k : ∀ n : Fin 19, Scalar.select (IntOp.cmpi CmpIPredicate.slt (BitVec.ofNat 32 n.val) 0#32) (IntOp.addi (BitVec.ofNat 32 n.val) 19#32) (BitVec.ofNat 32 n.val) = BitVec.ofNat 32 n.val := by decide +kernel
  exact k n

theorem src_at (e : Fin 138) : src (ix2 e 0) = BitVec.ofNat 32 (st e).val :=
  wrap_at _ e (st e) (by show lit0 (S138.rowMajor (ix1 e)) = _; rw [rm138]; exact lit0_eq e)
theorem dst_at (e : Fin 138) : dst (ix2 e 0) = BitVec.ofNat 32 (en e).val :=
  wrap_at _ e (en e) (by show lit1 (S138.rowMajor (ix1 e)) = _; rw [rm138]; exact lit1_eq e)

theorem gather5_at (x : FVec Ideal S16x81x19x8x32 .f32) (idx : IVec S138x1 32) (b : Fin 16) (t : Fin 81) (e : Fin 138) (h : Fin 8) (a : Fin 32) (n : Fin 19)
    (hn : idx (ix2 e 0) = BitVec.ofNat 32 n.val) :
    Host.gather gather_S16x81x19x8x32_S138x1_S16x81x138x8x32_0134_2_n_n_2_1_16811832 x idx (ix5 b t e h a) = x (ix5 b t n h a) := by
  unfold Host.gather
  refine congrArg x (funext fun q => Fin.ext ?_)
  have hs : ∀ c, gather_S16x81x19x8x32_S138x1_S16x81x138x8x32_0134_2_n_n_2_1_16811832.siIdx (ix5 b t e h a) c = ix2 e 0 := by
    intro c; funext q'; fin_cases q'
    · rfl
    · exact Fin.ext (by show c.val = 0; have := c.isLt; change _ < 1 at this; omega)
  show GatherDims.start _ _ idx q + GatherDims.batchCoord _ _ q + GatherDims.offCoord _ _ q = _
  have hi : ∀ n : Fin 19, (BitVec.ofNat 32 n.val).toInt.toNat = n.val := by decide +kernel
  unfold GatherDims.start
  rw [GatherDims.batchCoord_eq_zero _ _ _ (by exact List.not_mem_nil)]
  unfold GatherDims.offCoord
  fin_cases q
  · rw [dif_neg (by decide), dif_pos (by decide)]
    exact Nat.zero_add _
  · rw [dif_neg (by decide), dif_pos (by decide)]
    exact Nat.zero_add _
  · rw [dif_pos (by decide), dif_neg (by decide), hs, hn, hi]
    show min n.val 18 + 0 + 0 = n.val
    omega
  · rw [dif_neg (by decide), dif_pos (by decide)]
    exact Nat.zero_add _
  · rw [dif_neg (by decide), dif_pos (by decide)]
    exact Nat.zero_add _

theorem gather4_at (x : FVec Ideal S16x81x19x8 .f32) (idx : IVec S138x1 32) (b : Fin 16) (t : Fin 81) (e : Fin 138) (h : Fin 8) (n : Fin 19)
    (hn : idx (ix2 e 0) = BitVec.ofNat 32 n.val) :
    Host.gather gather_S16x81x19x8_S138x1_S16x81x138x8_013_2_n_n_2_1_168118 x idx (ix4 b t e h) = x (ix4 b t n h) := by
  unfold Host.gather
  refine congrArg x (funext fun q => Fin.ext ?_)
  have hs : ∀ c, gather_S16x81x19x8_S138x1_S16x81x138x8_013_2_n_n_2_1_168118.siIdx (ix4 b t e h) c = ix2 e 0 := by
    intro c; funext q'; fin_cases q'
    · rfl
    · exact Fin.ext (by show c.val = 0; have := c.isLt; change _ < 1 at this; omega)
  show GatherDims.start _ _ idx q + GatherDims.batchCoord _ _ q + GatherDims.offCoord _ _ q = _
  have hi : ∀ n : Fin 19, (BitVec.ofNat 32 n.val).toInt.toNat = n.val := by decide +kernel
  unfold GatherDims.start
  rw [GatherDims.batchCoord_eq_zero _ _ _ (by exact List.not_mem_nil)]
  unfold GatherDims.offCoord
  fin_cases q
  · rw [dif_neg (by decide), dif_pos (by decide)]
    exact Nat.zero_add _
  · rw [dif_neg (by decide), dif_pos (by decide)]
    exact Nat.zero_add _
  · rw [dif_pos (by decide), dif_neg (by decide), hs, hn, hi]
    show min n.val 18 + 0 + 0 = n.val
    omega
  · rw [dif_neg (by decide), dif_pos (by decide)]
    exact Nat.zero_add _

/-- Where the sums' updates land: at the node the edge leaves, everything else kept. -/
theorem lands4 (idx : IVec S138x1 32) (u : Fin 138 → Fin 19) (hu : ∀ e, idx (ix2 e 0) = BitVec.ofNat 32 (u e).val)
    (b b' : Fin 16) (t t' : Fin 81) (e : Fin 138) (n : Fin 19) (h h' : Fin 8) :
    scatter_S16x81x19x8_S138x1_S16x81x138x8_013_2_2_1.resultIdx? (ix4 b' t' e h') idx = some (ix4 b t n h)
      ↔ b' = b ∧ t' = t ∧ u e = n ∧ h' = h := by
  rw [Routing.resultIdx?_eq_some]
  have hs : ∀ c, scatter_S16x81x19x8_S138x1_S16x81x138x8_013_2_2_1.siIdx (ix4 b' t' e h') c = ix2 e 0 := by
    intro c; funext q'; fin_cases q'
    · rfl
    · exact Fin.ext (by show c.val = 0; have := c.isLt; change _ < 1 at this; omega)
  have hi : ∀ n : Fin 19, (BitVec.ofNat 32 n.val).toInt = (n.val : Int) := by decide +kernel
  have h2 : scatter_S16x81x19x8_S138x1_S16x81x138x8_013_2_2_1.start (ix4 b' t' e h') idx 2 = ((u e).val : Int) := by
    unfold ScatterDims.start
    rw [dif_pos (by decide), hs, hu, hi]
  constructor
  · intro H
    have a0 : (0 : Int) + (b'.val : Int) = b.val := H 0
    have a1 : (0 : Int) + (t'.val : Int) = t.val := H 1
    have a2 := H 2
    rw [h2] at a2
    have a2' : ((u e).val : Int) + ((0 : Nat) : Int) = n.val := a2
    have a3 : (0 : Int) + (h'.val : Int) = h.val := H 3
    exact ⟨Fin.ext (by omega), Fin.ext (by omega), Fin.ext (by omega), Fin.ext (by omega)⟩
  · rintro ⟨rfl, rfl, rfl, rfl⟩ q
    fin_cases q
    · show (0 : Int) + (b'.val : Int) = b'.val; omega
    · show (0 : Int) + (t'.val : Int) = t'.val; omega
    · show scatter_S16x81x19x8_S138x1_S16x81x138x8_013_2_2_1.start (ix4 b' t' e h') idx 2 + ((0 : Nat) : Int) = ((u e).val : Int)
      rw [h2]; omega
    · show (0 : Int) + (h'.val : Int) = h'.val; omega

/-- Where the weights' updates land: at the pair of the edge's ends. -/
theorem lands5 (idx : IVec S138x2 32) (u v : Fin 138 → Fin 19) (hu : ∀ e, idx (ix2 e 0) = BitVec.ofNat 32 (u e).val)
    (hv : ∀ e, idx (ix2 e 1) = BitVec.ofNat 32 (v e).val)
    (b b' : Fin 16) (t t' : Fin 81) (e : Fin 138) (h h' : Fin 8) (i j : Fin 19) :
    scatter_S16x81x8x19x19_S138x2_S16x81x8x138_012_34_34_1.resultIdx? (ix4 b' t' h' e) idx = some (ix5 b t h i j)
      ↔ b' = b ∧ t' = t ∧ h' = h ∧ u e = i ∧ v e = j := by
  rw [Routing.resultIdx?_eq_some]
  have hi : ∀ n : Fin 19, (BitVec.ofNat 32 n.val).toInt = (n.val : Int) := by decide +kernel
  have h3 : scatter_S16x81x8x19x19_S138x2_S16x81x8x138_012_34_34_1.start (ix4 b' t' h' e) idx 3 = ((u e).val : Int) := by
    unfold ScatterDims.start
    rw [dif_pos (by decide), show scatter_S16x81x8x19x19_S138x2_S16x81x8x138_012_34_34_1.siIdx (ix4 b' t' h' e) _ = ix2 e 0 from by
      funext q'; fin_cases q' <;> rfl, hu, hi]
  have h4 : scatter_S16x81x8x19x19_S138x2_S16x81x8x138_012_34_34_1.start (ix4 b' t' h' e) idx 4 = ((v e).val : Int) := by
    unfold ScatterDims.start
    rw [dif_pos (by decide), show scatter_S16x81x8x19x19_S138x2_S16x81x8x138_012_34_34_1.siIdx (ix4 b' t' h' e) _ = ix2 e 1 from by
      funext q'; fin_cases q' <;> rfl, hv, hi]
  constructor
  · intro H
    have a0 : (0 : Int) + (b'.val : Int) = b.val := H 0
    have a1 : (0 : Int) + (t'.val : Int) = t.val := H 1
    have a2 : (0 : Int) + (h'.val : Int) = h.val := H 2
    have a3 := H 3
    rw [h3] at a3
    have a3' : ((u e).val : Int) + ((0 : Nat) : Int) = i.val := a3
    have a4 := H 4
    rw [h4] at a4
    have a4' : ((v e).val : Int) + ((0 : Nat) : Int) = j.val := a4
    exact ⟨Fin.ext (by omega), Fin.ext (by omega), Fin.ext (by omega), Fin.ext (by omega), Fin.ext (by omega)⟩
  · rintro ⟨rfl, rfl, rfl, rfl, rfl⟩ q
    fin_cases q
    · show (0 : Int) + (b'.val : Int) = b'.val; omega
    · show (0 : Int) + (t'.val : Int) = t'.val; omega
    · show (0 : Int) + (h'.val : Int) = h'.val; omega
    · show scatter_S16x81x8x19x19_S138x2_S16x81x8x138_012_34_34_1.start (ix4 b' t' h' e) idx 3 + ((0 : Nat) : Int) = ((u e).val : Int)
      rw [h3]; omega
    · show scatter_S16x81x8x19x19_S138x2_S16x81x8x138_012_34_34_1.start (ix4 b' t' h' e) idx 4 + ((0 : Nat) : Int) = ((v e).val : Int)
      rw [h4]; omega

end Cert.ReferenceIdeal.Value

end
-- ==== Proof.RefTerms.lean ====
/- The reference's operations as functions of arrays, one per step of a layer. -/
module

public import proofs.«01_k».proof.Proof.RefIdx

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Row

/-- The nodes with the row of zeros and the row of means. -/
def rPad (x : FVec Ideal S16x81x17x256 .f32) : FVec Ideal S16x81x19x256 .f32 :=
  (concatenate S16x81x19x256 2 [⟨S16x81x17x256, (x)⟩, ⟨S16x81x1x256, ((broadcastInDim S16x81x1x256 ![] bcast_S_S16x81x1x256 (constant S_ .f32 0x00000000#32)))⟩, ⟨S16x81x1x256, ((Host.divf (broadcastInDim S16x81x1x256 ![0, 1, 3] bcast_S16x81x256_S16x81x1x256_0_1_3 (Host.reduceAdd x (constant S_ .f32 0x00000000#32) reducesTo_S16x81x17x256_S16x81x256_d2 h_S_)) (broadcastInDim S16x81x1x256 ![] bcast_S_S16x81x1x256 (constant S_ .f32 0x41880000#32))))⟩] concatenates_S16x81x17x256_S16x81x1x256_S16x81x1x256_S16x81x19x256_d2)

/-- The projection of the nodes, by head. -/
def rQkv (x : FVec Ideal S16x81x19x256 .f32) (l1 : FVec Ideal S128x256 .f32) (b1 : FVec Ideal S128 .f32) (qw : FVec Ideal S768x128 .f32) : FVec Ideal S16x81x19x8x96 .f32 :=
  shapeCast S16x81x19x8x96 (Host.dotGeneral dot_S16x81x19x128_S128x768_S16x81x19x768_3_0_012_1_n_n none (addf (Host.dotGeneral dot_S16x81x19x256_S256x128_S16x81x19x128_3_0_012_1_n_n none x (transpose S256x128 [1, 0] l1 transposes_S128x256_S256x128_1_0)) (broadcastInDim S16x81x19x128 ![0, 1, 2, 3] bcast_S1x1x1x128_S16x81x19x128_0_1_2_3 (broadcastInDim S1x1x1x128 ![3] bcast_S128_S1x1x1x128_3 b1))) (transpose S128x768 [1, 0] qw transposes_S768x128_S128x768_1_0)) shapeCasts_S16x81x19x768_S16x81x19x8x96

/-- The sum of the two ends' rows, by edge. -/
def rEdge (q : FVec Ideal S16x81x19x8x96 .f32) : FVec Ideal S16x81x138x8x32 .f32 :=
  addf (Host.gather gather_S16x81x19x8x32_S138x1_S16x81x138x8x32_0134_2_n_n_2_1_16811832 (extractStridedSlice S16x81x19x8x32 ![0, 0, 0, 0, 0] q slices_S16x81x19x8x96_S16x81x19x8x32_0_0_0_0_0) src) (Host.gather gather_S16x81x19x8x32_S138x1_S16x81x138x8x32_0134_2_n_n_2_1_16811832 (extractStridedSlice S16x81x19x8x32 ![0, 0, 0, 0, 32] q slices_S16x81x19x8x96_S16x81x19x8x32_0_0_0_0_32) dst)

/-- An edge's score, by head. -/
def rScore (e : FVec Ideal S16x81x138x8x32 .f32) (aw : FVec Ideal S1x32 .f32) : FVec Ideal S16x81x138x8 .f32 :=
  shapeCast S16x81x138x8 (Host.dotGeneral dot_S16x81x138x8x32_S32x1_S16x81x138x8x1_4_0_0123_1_n_n none (select (cmpf .une (subf e (broadcastInDim S16x81x138x8x32 ![] bcast_S_S16x81x138x8x32 (constant S_ .f32 0x00000000#32))) (subf e (broadcastInDim S16x81x138x8x32 ![] bcast_S_S16x81x138x8x32 (constant S_ .f32 0x00000000#32)))) (addf e (broadcastInDim S16x81x138x8x32 ![] bcast_S_S16x81x138x8x32 (constant S_ .f32 0x00000000#32))) (addf (maximumf e (broadcastInDim S16x81x138x8x32 ![] bcast_S_S16x81x138x8x32 (constant S_ .f32 0x00000000#32))) (Host.log1p (Host.exp (Host.negf (Host.absf (subf e (broadcastInDim S16x81x138x8x32 ![] bcast_S_S16x81x138x8x32 (constant S_ .f32 0x00000000#32))))))))) (transpose S32x1 [1, 0] aw transposes_S1x32_S32x1_1_0)) shapeCasts_S16x81x138x8x1_S16x81x138x8

/-- An edge's exponential, by head. -/
def rExp (s : FVec Ideal S16x81x138x8 .f32) : FVec Ideal S16x81x138x8 .f32 :=
  Host.exp (subf s (broadcastInDim S16x81x138x8 ![0, 1, 2, 3] bcast_S16x81x1x8_S16x81x138x8_0_1_2_3 (broadcastInDim S16x81x1x8 ![0, 1, 3] bcast_S16x81x8_S16x81x1x8_0_1_3 (Host.reduce FloatOps.maximumf s (constant S_ .f32 0xFF800000#32) reducesTo_S16x81x138x8_S16x81x8_d2 h_S_))))

/-- The columns of the projection that are weighed. -/
def rVal (q : FVec Ideal S16x81x19x8x96 .f32) : FVec Ideal S16x81x8x19x32 .f32 :=
  transpose S16x81x8x19x32 [0, 1, 3, 2, 4] (extractStridedSlice S16x81x19x8x32 ![0, 0, 0, 0, 64] q slices_S16x81x19x8x96_S16x81x19x8x32_0_0_0_0_64) transposes_S16x81x19x8x32_S16x81x8x19x32_0_1_3_2_4

/-- The sum of the exponentials of the edges out of a node, and the small constant. -/
def rDen (z : FVec Ideal S16x81x138x8 .f32) : FVec Ideal S16x81x19x8 .f32 :=
  Host.scatterAdd scatter_S16x81x19x8_S138x1_S16x81x138x8_013_2_2_1 (broadcastInDim S16x81x19x8 ![] bcast_S_S16x81x19x8 (constant S_ .f32 0x2EDBE6FF#32)) src z

/-- The weights as a matrix over pairs of nodes. -/
def rDense (z : FVec Ideal S16x81x138x8 .f32) : FVec Ideal S16x81x8x19x19 .f32 :=
  Host.scatter scatter_S16x81x8x19x19_S138x2_S16x81x8x138_012_34_34_1 (fun _ b => b) (broadcastInDim S16x81x8x19x19 ![] bcast_S_S16x81x8x19x19 (constant S_ .f32 0x00000000#32)) (concatenate S138x2 1 [⟨S138x1, src⟩, ⟨S138x1, dst⟩] concatenates_S138x1_S138x1_S138x2_d1) (transpose S16x81x8x138 [0, 1, 3, 2] (Host.divf z (Host.gather gather_S16x81x19x8_S138x1_S16x81x138x8_013_2_n_n_2_1_168118 (rDen z) src)) transposes_S16x81x138x8_S16x81x8x138_0_1_3_2)

/-- The node's own row and the weighted rows. -/
def rAttn (v : FVec Ideal S16x81x8x19x32 .f32) (z : FVec Ideal S16x81x138x8 .f32) : FVec Ideal S16x81x8x19x16 .f32 :=
  addf (extractStridedSlice S16x81x8x19x16 ![0, 0, 0, 0, 0] v slices_S16x81x8x19x32_S16x81x8x19x16_0_0_0_0_0) (Host.dotGeneral dot_S16x81x8x19x19_S16x81x8x19x16_S16x81x8x19x16_4_3_3_4_012_012 none (rDense z) (extractStridedSlice S16x81x8x19x16 ![0, 0, 0, 0, 16] v slices_S16x81x8x19x32_S16x81x8x19x16_0_0_0_0_16))

/-- The layer's last projection. -/
def rOut (v : FVec Ideal S16x81x8x19x32 .f32) (z : FVec Ideal S16x81x138x8 .f32) (l2 : FVec Ideal S256x128 .f32) (b2 : FVec Ideal S256 .f32) : FVec Ideal S16x81x19x256 .f32 :=
  addf (Host.dotGeneral dot_S16x81x19x128_S128x256_S16x81x19x256_3_0_012_1_n_n none (shapeCast S16x81x19x128 (transpose S16x81x19x8x16 [0, 1, 3, 2, 4] (rAttn v z) transposes_S16x81x8x19x16_S16x81x19x8x16_0_1_3_2_4) shapeCasts_S16x81x19x8x16_S16x81x19x128) (transpose S128x256 [1, 0] l2 transposes_S256x128_S128x256_1_0)) (broadcastInDim S16x81x19x256 ![0, 1, 2, 3] bcast_S1x1x1x256_S16x81x19x256_0_1_2_3 (broadcastInDim S1x1x1x256 ![3] bcast_S256_S1x1x1x256_3 b2))

/-- A graph layer. -/
def rLayer (x : FVec Ideal S16x81x19x256 .f32) (l1 : FVec Ideal S128x256 .f32) (b1 : FVec Ideal S128 .f32) (qw : FVec Ideal S768x128 .f32) (aw : FVec Ideal S1x32 .f32) (l2 : FVec Ideal S256x128 .f32) (b2 : FVec Ideal S256 .f32) : FVec Ideal S16x81x19x256 .f32 :=
  rOut (rVal (rQkv x l1 b1 qw)) (rExp (rScore (rEdge (rQkv x l1 b1 qw)) aw)) l2 b2

/-- The mean of a node's features. -/
def rMu (y : FVec Ideal S16x81x19x256 .f32) : FVec Ideal S16x81x19x1 .f32 :=
  Host.divf (broadcastInDim S16x81x19x1 ![0, 1, 2] bcast_S16x81x19_S16x81x19x1_0_1_2 (Host.reduceAdd y (constant S_ .f32 0x00000000#32) reducesTo_S16x81x19x256_S16x81x19_d3 h_S_)) (broadcastInDim S16x81x19x1 ![] bcast_S_S16x81x19x1 (constant S_ .f32 0x43800000#32))

/-- A node's features less their mean. -/
def rDif (y : FVec Ideal S16x81x19x256 .f32) : FVec Ideal S16x81x19x256 .f32 :=
  subf y (broadcastInDim S16x81x19x256 ![0, 1, 2, 3] bcast_S16x81x19x1_S16x81x19x256_0_1_2_3 (rMu y))

/-- The normalised features. -/
def rNorm (y : FVec Ideal S16x81x19x256 .f32) (g : FVec Ideal S256 .f32) (b : FVec Ideal S256 .f32) : FVec Ideal S16x81x19x256 .f32 :=
  addf (mulf (Host.divf (subf y (broadcastInDim S16x81x19x256 ![0, 1, 2, 3] bcast_S16x81x19x1_S16x81x19x256_0_1_2_3 (rMu y))) (broadcastInDim S16x81x19x256 ![0, 1, 2, 3] bcast_S16x81x19x1_S16x81x19x256_0_1_2_3 (Host.sqrt (addf (Host.divf (broadcastInDim S16x81x19x1 ![0, 1, 2] bcast_S16x81x19_S16x81x19x1_0_1_2 (Host.reduceAdd (mulf (rDif y) (rDif y)) (constant S_ .f32 0x00000000#32) reducesTo_S16x81x19x256_S16x81x19_d3 h_S_)) (broadcastInDim S16x81x19x1 ![] bcast_S_S16x81x19x1 (constant S_ .f32 0x43800000#32))) (broadcastInDim S16x81x19x1 ![] bcast_S_S16x81x19x1 (constant S_ .f32 0x3727C5AC#32)))))) (broadcastInDim S16x81x19x256 ![0, 1, 2, 3] bcast_S1x1x1x256_S16x81x19x256_0_1_2_3 (broadcastInDim S1x1x1x256 ![3] bcast_S256_S1x1x1x256_3 g))) (broadcastInDim S16x81x19x256 ![0, 1, 2, 3] bcast_S1x1x1x256_S16x81x19x256_0_1_2_3 (broadcastInDim S1x1x1x256 ![3] bcast_S256_S1x1x1x256_3 b))

variable (V0 : Valuation τ sig (Elt Ideal))

theorem v13_eq : res_main_v13 V0 = rQkv (rPad (V0 (Proc.devRef .tc main_arg0))) (V0 (Proc.devRef .tc main_arg1)) (V0 (Proc.devRef .tc main_arg2)) (V0 (Proc.devRef .tc main_arg3)) := rfl
theorem v31_eq : res_main_v31 V0 = rEdge (res_main_v13 V0) := rfl
theorem v35_eq : res_main_v35 V0 = rScore (res_main_v31 V0) (V0 (Proc.devRef .tc main_arg4)) := rfl
theorem v40_eq : res_main_v40 V0 = rExp (res_main_v35 V0) := rfl
theorem v73_eq : res_main_v73 V0 = rVal (res_main_v13 V0) := rfl
theorem v84_eq : res_main_v84 V0 = rOut (res_main_v73 V0) (res_main_v40 V0) (V0 (Proc.devRef .tc main_arg5)) (V0 (Proc.devRef .tc main_arg6)) := rfl
theorem v116_eq : res_main_v116 V0 = rQkv (rNorm (res_main_v84 V0) (V0 (Proc.devRef .tc main_arg7)) (V0 (Proc.devRef .tc main_arg8))) (V0 (Proc.devRef .tc main_arg9)) (V0 (Proc.devRef .tc main_arg10)) (V0 (Proc.devRef .tc main_arg11)) := rfl
theorem v134_eq : res_main_v134 V0 = rEdge (res_main_v116 V0) := rfl
theorem v138_eq : res_main_v138 V0 = rScore (res_main_v134 V0) (V0 (Proc.devRef .tc main_arg12)) := rfl
theorem v143_eq : res_main_v143 V0 = rExp (res_main_v138 V0) := rfl
theorem v176_eq : res_main_v176 V0 = rVal (res_main_v116 V0) := rfl

/-- The result as a function of the arguments: two layers, normalised between. -/
theorem result_eq : extractStridedSlice S16x81x17x256 ![0, 0, 0, 0] (rOut (res_main_v176 V0) (res_main_v143 V0) (V0 (Proc.devRef .tc main_arg13)) (V0 (Proc.devRef .tc main_arg14))) slices_S16x81x19x256_S16x81x17x256_0_0_0_0
    = extractStridedSlice S16x81x17x256 ![0, 0, 0, 0] (rLayer (rNorm (rLayer (rPad (V0 (Proc.devRef .tc main_arg0))) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg7)) (V0 (Proc.devRef .tc main_arg8))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))) slices_S16x81x19x256_S16x81x17x256_0_0_0_0 := by
  have h1 : res_main_v84 V0 = rLayer (rPad (V0 (Proc.devRef .tc main_arg0))) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
    rw [v84_eq, v73_eq, v40_eq, v35_eq, v31_eq, v13_eq]; rfl
  have h2 : rLayer (rNorm (res_main_v84 V0) (V0 (Proc.devRef .tc main_arg7)) (V0 (Proc.devRef .tc main_arg8))) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) = rOut (res_main_v176 V0) (res_main_v143 V0) (V0 (Proc.devRef .tc main_arg13)) (V0 (Proc.devRef .tc main_arg14)) := by
    rw [v176_eq, v143_eq, v138_eq, v134_eq, v116_eq]; rfl
  rw [← h1, h2]

end Cert.ReferenceIdeal.Value

end
-- ==== Proof.RefA.lean ====
/- The reference's projection and scores read at an index. -/
module

public import proofs.«01_k».proof.Proof.RefTerms

@[expose] public section

set_option maxRecDepth 16384

noncomputable section

namespace Cert.ReferenceIdeal.Value

open Cert.ReferenceIdeal Cert.ReferenceIdeal.Gen Idealize.ShloMosaic Idealize.SL.Sem Cert.Row

theorem rPad_at (x : FVec Ideal S16x81x17x256 .f32) (b : Fin 16) (t : Fin 81) (n : Fin 19) (f : Fin 256) :
    rPad x (ix4 b t n f) = nodes (fun m f => x (ix4 b t m f)) n f := by
  unfold rPad nodes; pointwise
  by_cases h : n.val < 17
  · rw [dif_pos h, dif_pos h]
  · rw [dif_neg h, dif_neg h]
    by_cases h' : n.val = 17
    · rw [if_pos h', dif_pos (by omega)]
    · rw [if_neg h', dif_neg (by omega)]

theorem rQkv_at (x : FVec Ideal S16x81x19x256 .f32) (l1 : FVec Ideal S128x256 .f32) (b1 : FVec Ideal S128 .f32) (qw : FVec Ideal S768x128 .f32)
    (b : Fin 16) (t : Fin 81) (n : Fin 19) (h : Fin 8) (k : Fin 96) :
    rQkv x l1 b1 qw (ix5 b t n h k)
      = ∑ c, (∑ f, x (ix4 b t n f) * l1 (ix2 c f) + b1 (ix1 c)) * qw (ix2 ⟨h.val * 96 + k.val, by omega⟩ c) := by
  unfold rQkv; pointwise

theorem rEdge_at (q : FVec Ideal S16x81x19x8x96 .f32) (b : Fin 16) (t : Fin 81) (e : Fin 138) (h : Fin 8) (a : Fin 32) :
    rEdge q (ix5 b t e h a) = q (ix5 b t (st e) h ⟨a.val, by omega⟩) + q (ix5 b t (en e) h ⟨32 + a.val, by omega⟩) := by
  unfold rEdge
  show Host.gather _ _ _ _ + Host.gather _ _ _ _ = _
  rw [gather5_at _ _ b t e h a (st e) (src_at e), gather5_at _ _ b t e h a (en e) (dst_at e)]
  pointwise

theorem rScore_at (e : FVec Ideal S16x81x138x8x32 .f32) (aw : FVec Ideal S1x32 .f32) (b : Fin 16) (t : Fin 81) (k : Fin 138) (h : Fin 8) :
    rScore e aw (ix4 b t k h) = ∑ a : Fin 32, spl (e (ix5 b t k h a)) * aw (ix2 0 a) := by
  unfold rScore; pointwise
  refine Finset.sum_congr rfl fun a _ => congrArg (· * aw (ix2 0 a)) ?_
  rw [if_neg (fun h => h rfl)]
  unfold spl
  rw [sub_eq_add_neg, zero_add]

theorem rVal_at (q : FVec Ideal S16x81x19x8x96 .f32) (b : Fin 16) (t : Fin 81) (h : Fin 8) (n : Fin 19) (d : Fin 32) :
    rVal q (ix5 b t h n d) = q (ix5 b t n h ⟨64 + d.val, by omega⟩) := by
  unfold rVal; pointwise

end Cert.ReferenceIdeal.Value

end
-- ==== Proof.RefB.lean ====
/- The reference's weights and weighted rows read at an index. -/
module

public import proofs.«01_k».proof.Proof.RefTerms

@[expose] public section

set_option maxRecDepth 16384

noncomputable section

namespace Cert.ReferenceIdeal.Value

open Cert.ReferenceIdeal Cert.ReferenceIdeal.Gen Idealize.ShloMosaic Idealize.SL.Sem Cert.Row

theorem top_le (S : Fin 19 → Fin 19 → EReal) (a : EReal) : top S ≤ a ↔ ∀ e : Fin 138, S (st e) (en e) ≤ a := by
  rw [top_le_iff]
  constructor
  · intro h e; exact h _ _ (edge_adj e)
  · intro h j i hij
    obtain ⟨e, rfl, rfl⟩ := adj_edge i j hij
    exact h e

theorem rExp_at (s : FVec Ideal S16x81x138x8 .f32) (S : Fin 19 → Fin 19 → EReal) (b : Fin 16) (t : Fin 81) (h : Fin 8)
    (hs : ∀ e, s (ix4 b t e h) = S (st e) (en e)) (e : Fin 138) :
    rExp s (ix4 b t e h) = z S (st e) (en e) := by
  unfold rExp z; pointwise
  have hb : Ideal.ofBits .f32 0xFF800000#32 = ⊥ := by simp [Ideal.ofBits, Ideal.ieee]
  have ht : Finset.fold max (Ideal.ofBits .f32 0xFF800000#32) (fun x => s (ix4 b t x h)) Finset.univ = top S := by
    refine le_antisymm ((Finset.fold_max_le _).2 ⟨by rw [hb]; exact bot_le, fun x _ => ?_⟩) ((top_le S _).2 fun x => ?_)
    · rw [hs]; exact (top_le S (top S)).1 (le_refl _) x
    · rw [← hs]; exact ((Finset.fold_max_le _).1 (le_refl (Finset.fold max (Ideal.ofBits .f32 0xFF800000#32) (fun x => s (ix4 b t x h)) Finset.univ))).2 x (Finset.mem_univ _)
  rw [ht, hs]

/-- The edges out of a node are as many as the nodes it has edges to. -/
theorem sum_edges (S : Fin 19 → Fin 19 → EReal) (n : Fin 19) :
    ∑ e ∈ Finset.univ.filter (fun e : Fin 138 => st e = n), z S (st e) (en e) = den S n := by
  unfold den
  rw [← Finset.sum_filter]
  refine Finset.sum_bij (fun e _ => en e) ?_ ?_ ?_ ?_
  · intro e he
    rw [Finset.mem_filter] at he ⊢
    exact ⟨Finset.mem_univ _, he.2 ▸ edge_adj e⟩
  · intro e he e' he' h
    rw [Finset.mem_filter] at he he'
    exact edge_inj e e' (he.2.trans he'.2.symm) h
  · intro j hj
    rw [Finset.mem_filter] at hj
    obtain ⟨e, h1, h2⟩ := adj_edge n j hj.2
    exact ⟨e, Finset.mem_filter.2 ⟨Finset.mem_univ _, h1⟩, h2⟩
  · intro e he
    rw [Finset.mem_filter] at he
    rw [he.2]

theorem rDen_at (Z : FVec Ideal S16x81x138x8 .f32) (S : Fin 19 → Fin 19 → EReal) (b : Fin 16) (t : Fin 81) (h : Fin 8)
    (hz : ∀ e, Z (ix4 b t e h) = z S (st e) (en e)) (n : Fin 19) :
    rDen Z (ix4 b t n h) = eps + den S n := by
  unfold rDen
  show eps + Finset.sum _ _ = _
  congr 1
  rw [← sum_edges]
  refine Finset.sum_nbij' (fun k => (k 2 : Fin 138)) (fun e => ix4 b t e h) ?_ ?_ ?_ ?_ ?_
  · intro k hk
    rw [Finset.mem_filter] at hk
    rw [eq_ix4 k] at hk
    exact Finset.mem_filter.2 ⟨Finset.mem_univ _, ((lands4 src st src_at _ _ _ _ _ _ _ _).1 hk.2).2.2.1⟩
  · intro e he
    rw [Finset.mem_filter] at he
    exact Finset.mem_filter.2 ⟨Finset.mem_univ _, (lands4 src st src_at _ _ _ _ _ _ _ _).2 ⟨rfl, rfl, he.2, rfl⟩⟩
  · intro k hk
    rw [Finset.mem_filter] at hk
    have hk2 := hk.2
    rw [eq_ix4 k] at hk2
    obtain ⟨h0, h1, _, h3⟩ := (lands4 src st src_at _ _ _ _ _ _ _ _).1 hk2
    exact ((eq_ix4 k).trans (by rw [h0, h1, h3])).symm
  · intro e he
    rfl
  · intro k hk
    rw [Finset.mem_filter] at hk
    have hk2 := hk.2
    rw [eq_ix4 k] at hk2
    obtain ⟨h0, h1, _, h3⟩ := (lands4 src st src_at _ _ _ _ _ _ _ _).1 hk2
    exact (congrArg Z ((eq_ix4 k).trans (by rw [h0, h1, h3]))).trans (hz _)

/-- The pairs of ends, one row an edge. -/
def pairs : IVec S138x2 32 := concatenate S138x2 1 [⟨S138x1, src⟩, ⟨S138x1, dst⟩] concatenates_S138x1_S138x1_S138x2_d1

theorem pairs_0 (e : Fin 138) : pairs (ix2 e 0) = BitVec.ofNat 32 (st e).val := by
  rw [← src_at e]; unfold pairs; pointwise
theorem pairs_1 (e : Fin 138) : pairs (ix2 e 1) = BitVec.ofNat 32 (en e).val := by
  rw [← dst_at e]; unfold pairs; pointwise

theorem rDense_at (Z : FVec Ideal S16x81x138x8 .f32) (S : Fin 19 → Fin 19 → EReal) (b : Fin 16) (t : Fin 81) (h : Fin 8)
    (hz : ∀ e, Z (ix4 b t e h) = z S (st e) (en e)) (i j : Fin 19) :
    rDense Z (ix5 b t h i j) = if adj i j then Ideal.div (z S i j) (eps + den S i) else 0 := by
  have hu : ∀ e, transpose S16x81x8x138 [0, 1, 3, 2] (Host.divf Z (Host.gather gather_S16x81x19x8_S138x1_S16x81x138x8_013_2_n_n_2_1_168118 (rDen Z) src)) transposes_S16x81x138x8_S16x81x8x138_0_1_3_2 (ix4 b t h e)
      = Ideal.div (z S (st e) (en e)) (eps + den S (st e)) := by
    intro e
    pointwise
    rw [gather4_at _ _ b t e h (st e) (src_at e), rDen_at Z S b t h hz, hz]
  unfold rDense
  split
  · next hij =>
    obtain ⟨e, rfl, rfl⟩ := adj_edge i j hij
    refine Routing.scatter_set_hit _ _ pairs _ _ _ (fun k hk => ?_) (ix4 b t h e) ((lands5 pairs st en pairs_0 pairs_1 _ _ _ _ _ _ _ _ _).2 ⟨rfl, rfl, rfl, rfl, rfl⟩)
    rw [eq_ix4 k] at hk
    obtain ⟨h0, h1, h2, h3, h4⟩ := (lands5 pairs st en pairs_0 pairs_1 _ _ _ _ _ _ _ _ _).1 hk
    rw [eq_ix4 k, h0, h1, h2, hu (k 3), h3, h4]
  · next hij =>
    refine (Routing.scatter_set_miss _ _ pairs _ _ (fun k hk => hij ?_)).trans ?_
    · rw [eq_ix4 k] at hk
      obtain ⟨_, _, _, h3, h4⟩ := (lands5 pairs st en pairs_0 pairs_1 _ _ _ _ _ _ _ _ _).1 hk
      rw [← h3, ← h4]; exact edge_adj _
    · pointwise

theorem rAttn_at (v : FVec Ideal S16x81x8x19x32 .f32) (Z : FVec Ideal S16x81x138x8 .f32) (S : Fin 19 → Fin 19 → EReal) (b : Fin 16) (t : Fin 81) (h : Fin 8)
    (hz : ∀ e, Z (ix4 b t e h) = z S (st e) (en e)) (i : Fin 19) (d : Fin 16) :
    rAttn v Z (ix5 b t h i d) = v (ix5 b t h i ⟨d.val, by omega⟩) + outK S eps (fun j => v (ix5 b t h j ⟨16 + d.val, by omega⟩)) i := by
  rw [outK_eq_outR S eps eps_pos]
  unfold rAttn outR
  pointwise
  simp only [rDense_at Z S b t h hz]

theorem rOut_at (v : FVec Ideal S16x81x8x19x32 .f32) (Z : FVec Ideal S16x81x138x8 .f32) (l2 : FVec Ideal S256x128 .f32) (b2 : FVec Ideal S256 .f32)
    (b : Fin 16) (t : Fin 81) (n : Fin 19) (c : Fin 256) :
    rOut v Z l2 b2 (ix4 b t n c)
      = ∑ l : Fin 128, rAttn v Z (ix5 b t ⟨l.val / 16, by omega⟩ n ⟨l.val % 16, Nat.mod_lt _ (by norm_num)⟩) * l2 (ix2 c l) + b2 (ix1 c) := by
  unfold rOut; generalize rAttn v Z = w; pointwise

end Cert.ReferenceIdeal.Value

end
-- ==== Proof.RefC.lean ====
/- The reference's normalisation read at an index. -/
module

public import proofs.«01_k».proof.Proof.RefTerms

@[expose] public section

set_option maxRecDepth 16384

noncomputable section

namespace Cert.ReferenceIdeal.Value

open Cert.ReferenceIdeal Cert.ReferenceIdeal.Gen Idealize.ShloMosaic Idealize.SL.Sem Cert.Row

theorem rMu_at (y : FVec Ideal S16x81x19x256 .f32) (b : Fin 16) (t : Fin 81) (n : Fin 19) :
    rMu y (ix4 b t n 0) = mu fun f => y (ix4 b t n f) := by
  unfold rMu mu; pointwise

theorem rNorm_at (y : FVec Ideal S16x81x19x256 .f32) (g bb : FVec Ideal S256 .f32) (b : Fin 16) (t : Fin 81) (n : Fin 19) (c : Fin 256) :
    rNorm y g bb (ix4 b t n c) = lnrm (fun f => g (ix1 f)) (fun f => bb (ix1 f)) (fun f => y (ix4 b t n f)) c := by
  rw [lnrm_eq]
  unfold rNorm rDif; pointwise
  rw [rMu_at]
  rfl

end Cert.ReferenceIdeal.Value

end
-- ==== Proof.RefNet.lean ====
/- The reference's result read at an index: the network at that position. -/
module

public import proofs.«01_k».proof.Proof.RefA
public import proofs.«01_k».proof.Proof.RefB
public import proofs.«01_k».proof.Proof.RefC
public import proofs.«01_k».proof.Proof.Weights

@[expose] public section

set_option maxRecDepth 16384

noncomputable section

namespace Cert.ReferenceIdeal.Value

open Cert.ReferenceIdeal Cert.ReferenceIdeal.Gen Idealize.ShloMosaic Idealize.SL.Sem Cert.Row

theorem rLayer_at (x : FVec Ideal S16x81x19x256 .f32) (l1 : FVec Ideal S128x256 .f32) (b1 : FVec Ideal S128 .f32) (qw : FVec Ideal S768x128 .f32)
    (aw : FVec Ideal S1x32 .f32) (l2 : FVec Ideal S256x128 .f32) (b2 : FVec Ideal S256 .f32) (b : Fin 16) (t : Fin 81) (n : Fin 19) (c : Fin 256) :
    rLayer x l1 b1 qw aw l2 b2 (ix4 b t n c) = conv (wts l1 b1 qw aw l2 b2) (fun n f => x (ix4 b t n f)) n c := by
  unfold rLayer
  rw [rOut_at]
  unfold conv
  refine congrArg₂ (· + ·) (Finset.sum_congr rfl fun l _ => ?_) rfl
  refine congrArg₂ (· * ·) ?_ rfl
  have hq : ∀ (n : Fin 19) (h : Fin 8) (k : Fin 96), rQkv x l1 b1 qw (ix5 b t n h k)
      = qkv (wts l1 b1 qw aw l2 b2) (fun n f => x (ix4 b t n f)) n ⟨h.val * 96 + k.val, by omega⟩ := fun n h k => rQkv_at x l1 b1 qw b t n h k
  generalize rQkv x l1 b1 qw = q at hq ⊢
  have hh : l.val / 16 < 8 := by omega
  generalize (⟨l.val / 16, hh⟩ : Fin 8) = h
  have hs : ∀ e, rScore (rEdge q) aw (ix4 b t e h) = score (wts l1 b1 qw aw l2 b2) (fun n f => x (ix4 b t n f)) h (st e) (en e) := by
    intro e
    rw [rScore_at]
    unfold score
    refine Finset.sum_congr rfl fun a _ => congrArg₂ (· * ·) (congrArg spl ?_) rfl
    rw [rEdge_at, hq, hq]
  rw [rAttn_at _ _ _ b t h (fun e => rExp_at _ _ b t h hs e)]
  unfold attn
  refine congrArg₂ (· + ·) ?_ (congrArg (fun v => outK _ eps v n) (funext fun j => ?_))
  · rw [rVal_at, hq]
  · rw [rVal_at, hq]
    congr 1
    apply Fin.ext
    dsimp only
    omega

/-- The reference's result at a position: the network of the arguments there. -/
theorem net_at (x : FVec Ideal S16x81x17x256 .f32) (l1 : FVec Ideal S128x256 .f32) (b1 : FVec Ideal S128 .f32) (qw : FVec Ideal S768x128 .f32)
    (aw : FVec Ideal S1x32 .f32) (l2 : FVec Ideal S256x128 .f32) (b2 g bb : FVec Ideal S256 .f32)
    (l1' : FVec Ideal S128x256 .f32) (b1' : FVec Ideal S128 .f32) (qw' : FVec Ideal S768x128 .f32)
    (aw' : FVec Ideal S1x32 .f32) (l2' : FVec Ideal S256x128 .f32) (b2' : FVec Ideal S256 .f32)
    (b : Fin 16) (t : Fin 81) (n : Fin 17) (c : Fin 256) :
    extractStridedSlice S16x81x17x256 ![0, 0, 0, 0] (rLayer (rNorm (rLayer (rPad x) l1 b1 qw aw l2 b2) g bb) l1' b1' qw' aw' l2' b2')
        slices_S16x81x19x256_S16x81x17x256_0_0_0_0 (ix4 b t n c)
      = net (wts l1 b1 qw aw l2 b2) (wts l1' b1' qw' aw' l2' b2') (fun f => g (ix1 f)) (fun f => bb (ix1 f))
          (fun m f => x (ix4 b t m f)) ⟨n.val, by omega⟩ c := by
  generalize hy : rNorm (rLayer (rPad x) l1 b1 qw aw l2 b2) g bb = y
  pointwise
  rw [rLayer_at]
  unfold net
  refine congrArg (fun X => conv _ X _ _) (funext fun m => funext fun f => ?_)
  rw [← hy, rNorm_at]
  refine congrArg (fun Y => lnrm _ _ Y f) (funext fun f' => ?_)
  rw [rLayer_at]
  refine congrArg (fun X => conv _ X _ _) (funext fun m' => funext fun f'' => ?_)
  rw [rPad_at]

end Cert.ReferenceIdeal.Value

end
-- ==== Proof.Same.lean ====
/- The kernel's result and the reference's are the same network of equal arguments. -/
module

public import proofs.«01_k».proof.Proof.KernelRun
public import proofs.«01_k».proof.Proof.RefNet

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Row

/-- The reference's result, over arguments equal to the kernel's, is the kernel's result. -/
theorem same (m : (ℓ : Loc KernelIdeal.nD KernelIdeal.τ KernelIdeal.sig) → Buf (Elt Ideal) ℓ) (m' : (ℓ : Loc nD τ sig) → Buf (Elt Ideal) ℓ) (c : Dev nD)
    (h0 : m' ((c.tc : Thread nD τ).loc main_arg0) = m ((c.tc : Thread KernelIdeal.nD KernelIdeal.τ).loc KernelIdeal.main_arg0))
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2))
    (h3 : m' ((c.tc : Thread nD τ).loc main_arg3) = m ((c.tc : Thread KernelIdeal.nD KernelIdeal.τ).loc KernelIdeal.main_arg3))
    (h4 : m' ((c.tc : Thread nD τ).loc main_arg4) = m ((c.tc : Thread KernelIdeal.nD KernelIdeal.τ).loc KernelIdeal.main_arg4))
    (h5 : m' ((c.tc : Thread nD τ).loc main_arg5) = m ((c.tc : Thread KernelIdeal.nD KernelIdeal.τ).loc KernelIdeal.main_arg5))
    (h6 : m' ((c.tc : Thread nD τ).loc main_arg6) = m ((c.tc : Thread KernelIdeal.nD KernelIdeal.τ).loc KernelIdeal.main_arg6))
    (h7 : m' ((c.tc : Thread nD τ).loc main_arg7) = m ((c.tc : Thread KernelIdeal.nD KernelIdeal.τ).loc KernelIdeal.main_arg7))
    (h8 : m' ((c.tc : Thread nD τ).loc main_arg8) = m ((c.tc : Thread KernelIdeal.nD KernelIdeal.τ).loc KernelIdeal.main_arg8))
    (h9 : m' ((c.tc : Thread nD τ).loc main_arg9) = m ((c.tc : Thread KernelIdeal.nD KernelIdeal.τ).loc KernelIdeal.main_arg9))
    (h10 : m' ((c.tc : Thread nD τ).loc main_arg10) = m ((c.tc : Thread KernelIdeal.nD KernelIdeal.τ).loc KernelIdeal.main_arg10))
    (h11 : m' ((c.tc : Thread nD τ).loc main_arg11) = m ((c.tc : Thread KernelIdeal.nD KernelIdeal.τ).loc KernelIdeal.main_arg11))
    (h12 : m' ((c.tc : Thread nD τ).loc main_arg12) = m ((c.tc : Thread KernelIdeal.nD KernelIdeal.τ).loc KernelIdeal.main_arg12))
    (h13 : m' ((c.tc : Thread nD τ).loc main_arg13) = m ((c.tc : Thread KernelIdeal.nD KernelIdeal.τ).loc KernelIdeal.main_arg13))
    (h14 : m' ((c.tc : Thread nD τ).loc main_arg14) = m ((c.tc : Thread KernelIdeal.nD KernelIdeal.τ).loc KernelIdeal.main_arg14)) :
    extractStridedSlice S16x81x17x256 ![0, 0, 0, 0] (rOut (res_main_v176 (launchContents m' c)) (res_main_v143 (launchContents m' c))
        (launchContents m' c (Proc.devRef .tc main_arg13)) (launchContents m' c (Proc.devRef .tc main_arg14))) slices_S16x81x19x256_S16x81x17x256_0_0_0_0
      = KernelIdeal.Model.kOut m c := by
  refine (result_eq (launchContents m' c)).trans (funext fun j => ?_)
  obtain ⟨b, t, n, f, rfl⟩ : ∃ (b : Fin 16) (t : Fin 81) (n : Fin 17) (f : Fin 256), j = ix4 b t n f := ⟨j 0, j 1, j 2, j 3, eq_ix4 j⟩
  refine (net_at _ _ _ _ _ _ _ _ _ _ _ _ _ _ _ b t n f).trans ?_
  have e0 : launchContents m' c (Proc.devRef .tc main_arg0) = m ((c.tc : Thread KernelIdeal.nD KernelIdeal.τ).loc KernelIdeal.main_arg0) := h0
  have e1 : launchContents m' c (Proc.devRef .tc main_arg1) = m ((c.tc : Thread KernelIdeal.nD KernelIdeal.τ).loc KernelIdeal.main_arg1) := h1
  have e2 : launchContents m' c (Proc.devRef .tc main_arg2) = m ((c.tc : Thread KernelIdeal.nD KernelIdeal.τ).loc KernelIdeal.main_arg2) := h2
  have e3 : launchContents m' c (Proc.devRef .tc main_arg3) = m ((c.tc : Thread KernelIdeal.nD KernelIdeal.τ).loc KernelIdeal.main_arg3) := h3
  have e4 : launchContents m' c (Proc.devRef .tc main_arg4) = m ((c.tc : Thread KernelIdeal.nD KernelIdeal.τ).loc KernelIdeal.main_arg4) := h4
  have e5 : launchContents m' c (Proc.devRef .tc main_arg5) = m ((c.tc : Thread KernelIdeal.nD KernelIdeal.τ).loc KernelIdeal.main_arg5) := h5
  have e6 : launchContents m' c (Proc.devRef .tc main_arg6) = m ((c.tc : Thread KernelIdeal.nD KernelIdeal.τ).loc KernelIdeal.main_arg6) := h6
  have e7 : launchContents m' c (Proc.devRef .tc main_arg7) = m ((c.tc : Thread KernelIdeal.nD KernelIdeal.τ).loc KernelIdeal.main_arg7) := h7
  have e8 : launchContents m' c (Proc.devRef .tc main_arg8) = m ((c.tc : Thread KernelIdeal.nD KernelIdeal.τ).loc KernelIdeal.main_arg8) := h8
  have e9 : launchContents m' c (Proc.devRef .tc main_arg9) = m ((c.tc : Thread KernelIdeal.nD KernelIdeal.τ).loc KernelIdeal.main_arg9) := h9
  have e10 : launchContents m' c (Proc.devRef .tc main_arg10) = m ((c.tc : Thread KernelIdeal.nD KernelIdeal.τ).loc KernelIdeal.main_arg10) := h10
  have e11 : launchContents m' c (Proc.devRef .tc main_arg11) = m ((c.tc : Thread KernelIdeal.nD KernelIdeal.τ).loc KernelIdeal.main_arg11) := h11
  have e12 : launchContents m' c (Proc.devRef .tc main_arg12) = m ((c.tc : Thread KernelIdeal.nD KernelIdeal.τ).loc KernelIdeal.main_arg12) := h12
  have e13 : launchContents m' c (Proc.devRef .tc main_arg13) = m ((c.tc : Thread KernelIdeal.nD KernelIdeal.τ).loc KernelIdeal.main_arg13) := h13
  have e14 : launchContents m' c (Proc.devRef .tc main_arg14) = m ((c.tc : Thread KernelIdeal.nD KernelIdeal.τ).loc KernelIdeal.main_arg14) := h14
  rw [e0, e1, e2, e3, e4, e5, e6, e7, e8, e9, e10, e11, e12, e13, e14]
  rfl

end Cert.ReferenceIdeal.Value

end
-- ==== Proof.lean ====
/- The proof of the five claims: the three programs end properly, the named mask is kept, and the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference ends with every counter at zero: it has none. -/
theorem reference_frame [hReferenceIdeal : Cert.ReferenceIdeal.Facts] (h : hReferenceIdeal = Cert.ReferenceIdeal.Gen.facts) : Cert.quiescent_ReferenceIdeal := by
  subst h
  exact fun m g _ => (θ_run _ _ _).mono (fun r h => ⟨fun c => (h c).2, funext fun s => match s with | (_, .reg x) => x.elim0 | (_, .dma x) => x.elim0⟩)
    (Cert.ReferenceIdeal.Value.run m g)

/-- The mask's finite stand-in is named as minus infinity. -/
theorem preserved : Cert.preserves_Kernel_KernelIdeal :=
  IdealRules.named_const.statement Cert.KernelIdeal.κ "mask" .f32 0xF149F2CA#32 ⊥ rfl

/-- The kernel and the reference end with the same result array. -/
theorem equal [hKernelIdeal : Cert.KernelIdeal.Facts] [hReferenceIdeal : Cert.ReferenceIdeal.Facts] (hk : hKernelIdeal = Cert.KernelIdeal.Gen.facts)
    (hr : hReferenceIdeal = Cert.ReferenceIdeal.Gen.facts) : Cert.algebraic_KernelIdeal_ReferenceIdeal := by
  subst hk
  subst hr
  intro m g m' g' _ hagree
  refine ⟨fun c => Cert.KernelIdeal.Model.kOut m c, Cert.KernelIdeal.Model.run m g, ?_⟩
  refine (θ_run _ _ _).mono (fun r h c => ⟨(h c).1.trans ?_, (h c).2⟩) (Cert.ReferenceIdeal.Value.run m' g')
  obtain ⟨h0, h1, h2, h3, h4, h5, h6, h7, h8, h9, h10, h11, h12, h13, h14⟩ := hagree c
  exact Cert.ReferenceIdeal.Value.same m m' c h0 h1 h2 h3 h4 h5 h6 h7 h8 h9 h10 h11 h12 h13 h14

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame rfl, preserved,
  equal rfl rfl⟩

end Cert.Proof

end
